-- ==== Defs.lean ====
def Pre_Kernel [hPre_offsets_in_range : Cert.Pre_offsets_in_range.Facts] (m : (ℓ : Loc Cert.Kernel.nD Cert.Kernel.τ Cert.Kernel.sig) → Buf (Elt Bits) ℓ) : Prop :=
  ∀ c : Dev Cert.Kernel.nD,
    (Cert.Pre_offsets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_offsets_in_range : Cert.Pre_offsets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_well_packed [hPre_well_packed : Cert.Pre_well_packed.Facts] (m : (ℓ : Loc Cert.KernelIdeal.nD Cert.KernelIdeal.τ Cert.KernelIdeal.sig) → Buf (Elt Ideal) ℓ) : Prop :=
  ∀ c : Dev Cert.KernelIdeal.nD,
    (Cert.Pre_well_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_packed [hPre_well_packed : Cert.Pre_well_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_offsets_in_range : Cert.Pre_offsets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_offsets_in_range : Cert.Pre_offsets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_well_packed [hKernelIdeal : Cert.KernelIdeal.Facts] [hPre_well_packed : Cert.Pre_well_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_well_packed [hReferenceIdeal : Cert.ReferenceIdeal.Facts] [hPre_well_packed : Cert.Pre_well_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_well_packed [hKernelIdeal : Cert.KernelIdeal.Facts] [hReferenceIdeal : Cert.ReferenceIdeal.Facts] [hPre_well_packed : Cert.Pre_well_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_offsets_in_range : Cert.Pre_offsets_in_range.Facts) (hPre_well_packed : Cert.Pre_well_packed.Facts),
    quiescent_Kernel (hKernel := hKernel) (hPre_offsets_in_range := hPre_offsets_in_range)
    ∧ quiescent_KernelIdeal (hKernelIdeal := hKernelIdeal) (hPre_offsets_in_range := hPre_offsets_in_range)
    ∧ quiescent_KernelIdeal_pre_well_packed (hKernelIdeal := hKernelIdeal) (hPre_well_packed := hPre_well_packed)
    ∧ quiescent_ReferenceIdeal (hReferenceIdeal := hReferenceIdeal)
    ∧ quiescent_ReferenceIdeal_pre_well_packed (hReferenceIdeal := hReferenceIdeal) (hPre_well_packed := hPre_well_packed)
    ∧ preserves_Kernel_KernelIdeal
    ∧ algebraic_KernelIdeal_ReferenceIdeal_pre_well_packed (hKernelIdeal := hKernelIdeal) (hReferenceIdeal := hReferenceIdeal) (hPre_well_packed := hPre_well_packed)
-- ==== Pre_offsets_in_range.lean ====
abbrev S10x128x1536 : Shape := ⟨3, ![10, 128, 1536]⟩
abbrev S1536x4096 : Shape := ⟨2, ![1536, 4096]⟩
abbrev S4096 : Shape := ⟨1, ![4096]⟩
abbrev S7x384x4096 : Shape := ⟨3, ![7, 384, 4096]⟩
abbrev S7x12x4096 : Shape := ⟨3, ![7, 12, 4096]⟩
abbrev S8 : Shape := ⟨1, ![8]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S10x128x1536 .bf16) (main_arg1 : FVec F S1536x4096 .fp8e4m3) (main_arg2 : FVec F S4096 .f32) (main_arg3 : IVec S7x384x4096 16) (main_arg4 : FVec F S7x12x4096 .bf16) (main_arg5 : IVec S8 32) : IVec S8 1 :=
  let main_c : IVec S_ 32 := constantI S_ 32 0#32
  let main_v0 : IVec S8 32 := broadcastInDim S8 ![] bcast_S_S8 main_c
  let main_v1 : IVec S8 1 := cmpi .sge main_arg5 main_v0
  let main_c_0 : IVec S_ 32 := constantI S_ 32 1280#32
  let main_v2 : IVec S8 32 := broadcastInDim S8 ![] bcast_S_S8 main_c_0
  let main_v3 : IVec S8 1 := cmpi .sle main_arg5 main_v2
  let main_v4 : IVec S8 1 := andi main_v1 main_v3
  main_v4
-- ==== Pre_well_packed.lean ====
abbrev S10x128x1536 : Shape := ⟨3, ![10, 128, 1536]⟩
abbrev S1536x4096 : Shape := ⟨2, ![1536, 4096]⟩
abbrev S4096 : Shape := ⟨1, ![4096]⟩
abbrev S7x384x4096 : Shape := ⟨3, ![7, 384, 4096]⟩
abbrev S7x12x4096 : Shape := ⟨3, ![7, 12, 4096]⟩
abbrev S8 : Shape := ⟨1, ![8]⟩
abbrev S_ : Shape := ⟨0, ![]⟩

class Facts : Prop where
  natLt_16_32 : 16 < 32
  bcast_S_S8 : S_.BroadcastsInDim S8 (![] : Fin 0 → Fin S8.rank)
  reducesTo_S8_S_d0 : S8.ReducesTo [0] S_
  h_S_ : 0 < S_.numel
  bcast_S_S7x384x4096 : S_.BroadcastsInDim S7x384x4096 (![] : Fin 0 → Fin S7x384x4096.rank)
  reducesTo_S7x384x4096_S_d0_1_2 : S7x384x4096.ReducesTo [0, 1, 2] S_

variable [Facts]

def fn_part1 {F : FTy → Type} [FloatOps F] (main_v6 : IVec S_ 1) (main_v15 : IVec S7x384x4096 1) (main_c_6 : IVec S_ 1) : IVec S_ 1 :=
  let main_v16 : IVec S_ 1 := (fun x v => Host.reduce IntOp.andi x v reducesTo_S7x384x4096_S_d0_1_2 h_S_) main_v15 main_c_6
  let main_v17 : IVec S_ 1 := andi main_v6 main_v16
  main_v17

def fn {F : FTy → Type} [FloatOps F] (main_arg0 : FVec F S10x128x1536 .bf16) (main_arg1 : FVec F S1536x4096 .fp8e4m3) (main_arg2 : FVec F S4096 .f32) (main_arg3 : IVec S7x384x4096 16) (main_arg4 : FVec F S7x12x4096 .bf16) (main_arg5 : IVec S8 32) : IVec S_ 1 :=
  let main_v0 : IVec S7x384x4096 32 := (extui 32 · natLt_16_32) main_arg3
  let main_c : IVec S_ 32 := constantI S_ 32 0#32
  let main_v1 : IVec S8 32 := broadcastInDim S8 ![] bcast_S_S8 main_c
  let main_v2 : IVec S8 1 := cmpi .sge main_arg5 main_v1
  let main_c_0 : IVec S_ 32 := constantI S_ 32 1280#32
  let main_v3 : IVec S8 32 := broadcastInDim S8 ![] bcast_S_S8 main_c_0
  let main_v4 : IVec S8 1 := cmpi .sle main_arg5 main_v3
  let main_v5 : IVec S8 1 := andi main_v2 main_v4
  let main_c_1 : IVec S_ 1 := constantI S_ 1 1#1
  let main_v6 : IVec S_ 1 := (fun x v => Host.reduce IntOp.andi x v reducesTo_S8_S_d0 h_S_) main_v5 main_c_1
  let main_c_2 : IVec S_ 32 := constantI S_ 32 8#32
  let main_v7 : IVec S7x384x4096 32 := broadcastInDim S7x384x4096 ![] bcast_S_S7x384x4096 main_c_2
  let main_v8 : IVec S7x384x4096 32 := Host.shrsi main_v0 main_v7
  let main_c_3 : IVec S_ 32 := constantI S_ 32 3#32
  let main_v9 : IVec S7x384x4096 32 := broadcastInDim S7x384x4096 ![] bcast_S_S7x384x4096 main_c_3
  let main_v10 : IVec S7x384x4096 32 := andi main_v8 main_v9
  let main_c_4 : IVec S_ 32 := constantI S_ 32 10#32
  let main_v11 : IVec S7x384x4096 32 := broadcastInDim S7x384x4096 ![] bcast_S_S7x384x4096 main_c_4
  let main_v12 : IVec S7x384x4096 32 := Host.shrsi main_v0 main_v11
  let main_c_5 : IVec S_ 32 := constantI S_ 32 3#32
  let main_v13 : IVec S7x384x4096 32 := broadcastInDim S7x384x4096 ![] bcast_S_S7x384x4096 main_c_5
  let main_v14 : IVec S7x384x4096 32 := andi main_v12 main_v13
  let main_v15 : IVec S7x384x4096 1 := cmpi .slt main_v10 main_v14
  let main_c_6 : IVec S_ 1 := constantI S_ 1 1#1
  fn_part1 (F := F) main_v6 main_v15 main_c_6
-- ==== Kernel.lean ====
abbrev S10x128x1536 : Shape := ⟨3, ![10, 128, 1536]⟩
abbrev S1536x4096 : Shape := ⟨2, ![1536, 4096]⟩
abbrev S4096 : Shape := ⟨1, ![4096]⟩
abbrev S7x384x4096 : Shape := ⟨3, ![7, 384, 4096]⟩
abbrev S7x12x4096 : Shape := ⟨3, ![7, 12, 4096]⟩
abbrev S8 : Shape := ⟨1, ![8]⟩
abbrev S1280x1536 : Shape := ⟨2, ![1280, 1536]⟩
abbrev S1x4096 : Shape := ⟨2, ![1, 4096]⟩
abbrev S1280x4096 : Shape := ⟨2, ![1280, 4096]⟩
abbrev S1536x512 : Shape := ⟨2, ![1536, 512]⟩
abbrev S1x512 : Shape := ⟨2, ![1, 512]⟩
abbrev S7x384x512 : Shape := ⟨3, ![7, 384, 512]⟩
abbrev S7x12x512 : Shape := ⟨3, ![7, 12, 512]⟩
abbrev S1280x512 : Shape := ⟨2, ![1280, 512]⟩
abbrev S1408x1536 : Shape := ⟨2, ![1408, 1536]⟩
abbrev S1408x512 : Shape := ⟨2, ![1408, 512]⟩
abbrev S16x128 : Shape := ⟨2, ![16, 128]⟩
abbrev S16x128x1 : Shape := ⟨3, ![16, 128, 1]⟩
abbrev S128x1536 : Shape := ⟨2, ![128, 1536]⟩
abbrev S1 : Shape := ⟨1, ![1]⟩
abbrev S1x1x512 : Shape := ⟨3, ![1, 1, 512]⟩
abbrev S1x16x512 : Shape := ⟨3, ![1, 16, 512]⟩
abbrev S16x512 : Shape := ⟨2, ![16, 512]⟩
abbrev S8x512 : Shape := ⟨2, ![8, 512]⟩
abbrev S128x512 : Shape := ⟨2, ![128, 512]⟩

abbrev nBuf : Space → Nat
  | .hbm => 8
  | .vmem => 14
  | .smem => 1
  | _ => 0

abbrev bufTy : (tb : Table) → Fin (tcTables nBuf tb) → BufTy
  | .hbm, ⟨0, _⟩ => ⟨S10x128x1536, .bf16⟩
  | .hbm, ⟨1, _⟩ => ⟨S1536x4096, .fp8e4m3⟩
  | .hbm, ⟨2, _⟩ => ⟨S4096, .f32⟩
  | .hbm, ⟨3, _⟩ => ⟨S7x384x4096, .i16⟩
  | .hbm, ⟨4, _⟩ => ⟨S7x12x4096, .bf16⟩
  | .hbm, ⟨5, _⟩ => ⟨S1280x1536, .bf16⟩
  | .hbm, ⟨6, _⟩ => ⟨S1x4096, .f32⟩
  | .hbm, ⟨7, _⟩ => ⟨S1280x4096, .bf16⟩
  | .local _ .vmem, ⟨0, _⟩ => ⟨S1280x1536, .bf16⟩
  | .local _ .vmem, ⟨1, _⟩ => ⟨S1536x512, .fp8e4m3⟩
  | .local _ .vmem, ⟨2, _⟩ => ⟨S1536x512, .fp8e4m3⟩
  | .local _ .vmem, ⟨3, _⟩ => ⟨S1x512, .f32⟩
  | .local _ .vmem, ⟨4, _⟩ => ⟨S1x512, .f32⟩
  | .local _ .vmem, ⟨5, _⟩ => ⟨S7x384x512, .i16⟩
  | .local _ .vmem, ⟨6, _⟩ => ⟨S7x384x512, .i16⟩
  | .local _ .vmem, ⟨7, _⟩ => ⟨S7x12x512, .bf16⟩
  | .local _ .vmem, ⟨8, _⟩ => ⟨S7x12x512, .bf16⟩
  | .local _ .vmem, ⟨9, _⟩ => ⟨S1280x512, .bf16⟩
  | .local _ .vmem, ⟨10, _⟩ => ⟨S1280x512, .bf16⟩
  | .local _ .vmem, ⟨11, _⟩ => ⟨S1408x1536, .bf16⟩
  | .local _ .vmem, ⟨12, _⟩ => ⟨S1536x512, .bf16⟩
  | .local _ .vmem, ⟨13, _⟩ => ⟨S1408x512, .f32⟩
  | .local _ .smem, ⟨0, _⟩ => ⟨S8, .i32⟩
  | _, _ => ⟨S10x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c80_i32 : BitVec 32 := 80#32
  let v19 : BitVec 32 := Scalar.addi c0_i32_14 c80_i32
  let c1_i32_15 : BitVec 32 := 1#32
  ⟨c0_i32_14, v19, c1_i32_15⟩
def k0_off1 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v27 : Index := Scalar.indexCast v26
  let c0_21 : Index := 0#32
  ![v27.toNat, 0]
def k0_off2 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v53 : Index := Scalar.indexCast v26
  let c0_23 : Index := 0#32
  ![v53.toNat, 0]
def k0_off3 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v57 : Index := Scalar.indexCast v26
  let c128 : Index := 128#32
  ![v57.toNat, 128]
def k0_off4 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v83 : Index := Scalar.indexCast v26
  let c128_31 : Index := 128#32
  ![v83.toNat, 128]
def k0_off5 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v87 : Index := Scalar.indexCast v26
  let c256 : Index := 256#32
  ![v87.toNat, 256]
def k0_off6 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v113 : Index := Scalar.indexCast v26
  let c256_39 : Index := 256#32
  ![v113.toNat, 256]
def k0_off7 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v117 : Index := Scalar.indexCast v26
  let c384 : Index := 384#32
  ![v117.toNat, 384]
def k0_off8 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v143 : Index := Scalar.indexCast v26
  let c384_47 : Index := 384#32
  ![v143.toNat, 384]
def k0_off9 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v147 : Index := Scalar.indexCast v26
  let c512 : Index := 512#32
  ![v147.toNat, 512]
def k0_off10 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v173 : Index := Scalar.indexCast v26
  let c512_55 : Index := 512#32
  ![v173.toNat, 512]
def k0_off11 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v177 : Index := Scalar.indexCast v26
  let c640 : Index := 640#32
  ![v177.toNat, 640]
def k0_off12 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v203 : Index := Scalar.indexCast v26
  let c640_63 : Index := 640#32
  ![v203.toNat, 640]
def k0_off13 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v207 : Index := Scalar.indexCast v26
  let c768 : Index := 768#32
  ![v207.toNat, 768]
def k0_off14 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v233 : Index := Scalar.indexCast v26
  let c768_71 : Index := 768#32
  ![v233.toNat, 768]
def k0_off15 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v237 : Index := Scalar.indexCast v26
  let c896 : Index := 896#32
  ![v237.toNat, 896]
def k0_off16 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v263 : Index := Scalar.indexCast v26
  let c896_79 : Index := 896#32
  ![v263.toNat, 896]
def k0_off17 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v267 : Index := Scalar.indexCast v26
  let c1024 : Index := 1024#32
  ![v267.toNat, 1024]
def k0_off18 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v293 : Index := Scalar.indexCast v26
  let c1024_87 : Index := 1024#32
  ![v293.toNat, 1024]
def k0_off19 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v297 : Index := Scalar.indexCast v26
  let c1152 : Index := 1152#32
  ![v297.toNat, 1152]
def k0_off20 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v323 : Index := Scalar.indexCast v26
  let c1152_95 : Index := 1152#32
  ![v323.toNat, 1152]
def k0_off21 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v327 : Index := Scalar.indexCast v26
  let c1280_96 : Index := 1280#32
  ![v327.toNat, 1280]
def k0_off22 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v353 : Index := Scalar.indexCast v26
  let c1280_104 : Index := 1280#32
  ![v353.toNat, 1280]
def k0_off23 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v357 : Index := Scalar.indexCast v26
  let c1408 : Index := 1408#32
  ![v357.toNat, 1408]
def k0_off24 (k0_t1 : Fin k0_t1_loop.trips) : Fin 2 → Nat :=
  let c0_i32_20 : BitVec 32 := 0#32
  let c0_i32_14 : BitVec 32 := 0#32
  let c1_i32_15 : BitVec 32 := 1#32
  let arg11 : BitVec 32 := Scf.iv c0_i32_14 c1_i32_15 k0_t1
  let c1_i32_19 : BitVec 32 := 1#32
  let v24 : BitVec 32 := Scalar.muli arg11 c1_i32_19
  let v25 : BitVec 32 := Scalar.addi c0_i32_20 v24
  let c16_i32 : BitVec 32 := 16#32
  let v26 : BitVec 32 := Scalar.muli v25 c16_i32
  let v383 : Index := Scalar.indexCast v26
  let c1408_112 : Index := 1408#32
  ![v383.toNat, 1408]
@[reducible] def k0_t2_loop : Scf.Loop 32 :=
  let c0_i32_8 : BitVec 32 := 0#32
  let c7_i32 : BitVec 32 := 7#32
  let v15 : BitVec 32 := Scalar.addi c0_i32_8 c7_i32
  let c1_i32 : BitVec 32 := 1#32
  ⟨c0_i32_8, v15, c1_i32⟩
def k0_off25 (k0_t2 : Fin k0_t2_loop.trips) : Fin 1 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v21 : Index := Scalar.indexCast v20
  ![v21.toNat]
def k0_off26 (k0_t2 : Fin k0_t2_loop.trips) : Fin 1 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let c1_i32_16 : BitVec 32 := 1#32
  let v23 : BitVec 32 := Scalar.addi v20 c1_i32_16
  let v24 : Index := Scalar.indexCast v23
  ![v24.toNat]
def k0_off27 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v29 : Index := Scalar.indexCast v20
  let c0_18 : Index := 0#32
  let c0_19 : Index := 0#32
  ![v29.toNat, 0, 0]
def k0_off28 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v32 : Index := Scalar.indexCast v20
  let c0_20 : Index := 0#32
  let c0_21 : Index := 0#32
  ![v32.toNat, 0, 0]
def k0_off29 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v96 : Index := Scalar.indexCast v20
  let c16_34 : Index := 16#32
  let c0_35 : Index := 0#32
  ![v96.toNat, 16, 0]
def k0_off30 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v157 : Index := Scalar.indexCast v20
  let c1 : Index := 1#32
  let c0_56 : Index := 0#32
  ![v157.toNat, 1, 0]
def k0_off31 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v160 : Index := Scalar.indexCast v20
  let c32_57 : Index := 32#32
  let c0_58 : Index := 0#32
  ![v160.toNat, 32, 0]
def k0_off32 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v224 : Index := Scalar.indexCast v20
  let c48_81 : Index := 48#32
  let c0_82 : Index := 0#32
  ![v224.toNat, 48, 0]
def k0_off33 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v285 : Index := Scalar.indexCast v20
  let c2 : Index := 2#32
  let c0_103 : Index := 0#32
  ![v285.toNat, 2, 0]
def k0_off34 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v288 : Index := Scalar.indexCast v20
  let c64_104 : Index := 64#32
  let c0_105 : Index := 0#32
  ![v288.toNat, 64, 0]
def k0_off35 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v352 : Index := Scalar.indexCast v20
  let c80_128 : Index := 80#32
  let c0_129 : Index := 0#32
  ![v352.toNat, 80, 0]
def k0_off36 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v413 : Index := Scalar.indexCast v20
  let c3 : Index := 3#32
  let c0_150 : Index := 0#32
  ![v413.toNat, 3, 0]
def k0_off37 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v416 : Index := Scalar.indexCast v20
  let c96_151 : Index := 96#32
  let c0_152 : Index := 0#32
  ![v416.toNat, 96, 0]
def k0_off38 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v480 : Index := Scalar.indexCast v20
  let c112_175 : Index := 112#32
  let c0_176 : Index := 0#32
  ![v480.toNat, 112, 0]
def k0_off39 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v541 : Index := Scalar.indexCast v20
  let c4 : Index := 4#32
  let c0_197 : Index := 0#32
  ![v541.toNat, 4, 0]
def k0_off40 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v544 : Index := Scalar.indexCast v20
  let c128_198 : Index := 128#32
  let c0_199 : Index := 0#32
  ![v544.toNat, 128, 0]
def k0_off41 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v608 : Index := Scalar.indexCast v20
  let c144_222 : Index := 144#32
  let c0_223 : Index := 0#32
  ![v608.toNat, 144, 0]
def k0_off42 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v669 : Index := Scalar.indexCast v20
  let c5 : Index := 5#32
  let c0_244 : Index := 0#32
  ![v669.toNat, 5, 0]
def k0_off43 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v672 : Index := Scalar.indexCast v20
  let c160_245 : Index := 160#32
  let c0_246 : Index := 0#32
  ![v672.toNat, 160, 0]
def k0_off44 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v736 : Index := Scalar.indexCast v20
  let c176_269 : Index := 176#32
  let c0_270 : Index := 0#32
  ![v736.toNat, 176, 0]
def k0_off45 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v797 : Index := Scalar.indexCast v20
  let c6 : Index := 6#32
  let c0_291 : Index := 0#32
  ![v797.toNat, 6, 0]
def k0_off46 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v800 : Index := Scalar.indexCast v20
  let c192_292 : Index := 192#32
  let c0_293 : Index := 0#32
  ![v800.toNat, 192, 0]
def k0_off47 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v864 : Index := Scalar.indexCast v20
  let c208_316 : Index := 208#32
  let c0_317 : Index := 0#32
  ![v864.toNat, 208, 0]
def k0_off48 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v925 : Index := Scalar.indexCast v20
  let c7 : Index := 7#32
  let c0_338 : Index := 0#32
  ![v925.toNat, 7, 0]
def k0_off49 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v928 : Index := Scalar.indexCast v20
  let c224_339 : Index := 224#32
  let c0_340 : Index := 0#32
  ![v928.toNat, 224, 0]
def k0_off50 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v992 : Index := Scalar.indexCast v20
  let c240_363 : Index := 240#32
  let c0_364 : Index := 0#32
  ![v992.toNat, 240, 0]
def k0_off51 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1053 : Index := Scalar.indexCast v20
  let c8 : Index := 8#32
  let c0_385 : Index := 0#32
  ![v1053.toNat, 8, 0]
def k0_off52 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1056 : Index := Scalar.indexCast v20
  let c256_386 : Index := 256#32
  let c0_387 : Index := 0#32
  ![v1056.toNat, 256, 0]
def k0_off53 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1120 : Index := Scalar.indexCast v20
  let c272_410 : Index := 272#32
  let c0_411 : Index := 0#32
  ![v1120.toNat, 272, 0]
def k0_off54 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1181 : Index := Scalar.indexCast v20
  let c9 : Index := 9#32
  let c0_432 : Index := 0#32
  ![v1181.toNat, 9, 0]
def k0_off55 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1184 : Index := Scalar.indexCast v20
  let c288_433 : Index := 288#32
  let c0_434 : Index := 0#32
  ![v1184.toNat, 288, 0]
def k0_off56 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1248 : Index := Scalar.indexCast v20
  let c304_457 : Index := 304#32
  let c0_458 : Index := 0#32
  ![v1248.toNat, 304, 0]
def k0_off57 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1309 : Index := Scalar.indexCast v20
  let c10 : Index := 10#32
  let c0_479 : Index := 0#32
  ![v1309.toNat, 10, 0]
def k0_off58 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1312 : Index := Scalar.indexCast v20
  let c320_480 : Index := 320#32
  let c0_481 : Index := 0#32
  ![v1312.toNat, 320, 0]
def k0_off59 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1376 : Index := Scalar.indexCast v20
  let c336_504 : Index := 336#32
  let c0_505 : Index := 0#32
  ![v1376.toNat, 336, 0]
def k0_off60 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1437 : Index := Scalar.indexCast v20
  let c11 : Index := 11#32
  let c0_526 : Index := 0#32
  ![v1437.toNat, 11, 0]
def k0_off61 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1440 : Index := Scalar.indexCast v20
  let c352_527 : Index := 352#32
  let c0_528 : Index := 0#32
  ![v1440.toNat, 352, 0]
def k0_off62 (k0_t2 : Fin k0_t2_loop.trips) : Fin 3 → Nat :=
  let c0_i32_15 : BitVec 32 := 0#32
  let c0_i32_8 : BitVec 32 := 0#32
  let c1_i32 : BitVec 32 := 1#32
  let arg11 : BitVec 32 := Scf.iv c0_i32_8 c1_i32 k0_t2
  let c1_i32_14 : BitVec 32 := 1#32
  let v19 : BitVec 32 := Scalar.muli arg11 c1_i32_14
  let v20 : BitVec 32 := Scalar.addi c0_i32_15 v19
  let v1504 : Index := Scalar.indexCast v20
  let c368_551 : Index := 368#32
  let c0_552 : Index := 0#32
  ![v1504.toNat, 368, 0]
@[reducible] def k0_t3_loop (v22 : BitVec 32) (v25 : BitVec 32) : Scf.Loop 32 :=
  let c0_i32_583 : BitVec 32 := 0#32
  let c4_i32_573 : BitVec 32 := 4#32
  let v1565 : BitVec 32 := Scalar.shrsi v22 c4_i32_573
  let c4_i32_574 : BitVec 32 := 4#32
  let v1566 : BitVec 32 := Scalar.shli v1565 c4_i32_574
  let v1567 : BitVec 32 := Scalar.subi v25 v1566
  let c128_i32 : BitVec 32 := 128#32
  let v1568 : BitVec 32 := Scalar.addi v1567 c128_i32
  let c1_i32_575 : BitVec 32 := 1#32
  let v1569 : BitVec 32 := Scalar.subi v1568 c1_i32_575
  let c7_i32_576 : BitVec 32 := 7#32
  let v1570 : BitVec 32 := Scalar.shrsi v1569 c7_i32_576
  let c0_i32_577 : BitVec 32 := 0#32
  let v1571 : BitVec 32 := Scalar.subi v1570 c0_i32_577
  let c1_i32_578 : BitVec 32 := 1#32
  let c1_i32_579 : BitVec 32 := 1#32
  let v1572 : BitVec 32 := Scalar.subi c1_i32_578 c1_i32_579
  let v1573 : BitVec 32 := Scalar.addi v1571 v1572
  let c1_i32_580 : BitVec 32 := 1#32
  let v1574 : BitVec 32 := Scalar.divsi v1573 c1_i32_580
  let v1575 : BitVec 32 := Scalar.subi v1574 c0_i32_583
  let c1_i32_584 : BitVec 32 := 1#32
  let v1577 : BitVec 32 := Scalar.divsi v1575 c1_i32_584
  let v1578 : BitVec 32 := Scalar.muli v1577 c1_i32_584
  let v1579 : BitVec 32 := Scalar.addi c0_i32_583 v1578
  let c1_i32_585 : BitVec 32 := 1#32
  ⟨c0_i32_583, v1579, c1_i32_585⟩
def k0_cond2 (v22 : BitVec 32) (v25 : BitVec 32) : BitVec 1 :=
  let v26 : BitVec 1 := Scalar.cmpi .sgt v25 v22
  let v27 : BitVec 32 := Scalar.extui v26
  let c0_i32_17 : BitVec 32 := 0#32
  let v28 : BitVec 1 := Scalar.cmpi .ne v27 c0_i32_17
  v28

def k0_mult1 (v22 : BitVec 32) (v25 : BitVec 32) (k0_t3 : Fin (k0_t3_loop v22 v25).trips) : BitVec 32 :=
  let c4_i32_573 : BitVec 32 := 4#32
  let v1565 : BitVec 32 := Scalar.shrsi v22 c4_i32_573
  let c4_i32_574 : BitVec 32 := 4#32
  let v1566 : BitVec 32 := Scalar.shli v1565 c4_i32_574
  let c0_i32_582 : BitVec 32 := 0#32
  let c0_i32_583 : BitVec 32 := 0#32
  let c1_i32_585 : BitVec 32 := 1#32
  let arg12 : BitVec 32 := Scf.iv c0_i32_583 c1_i32_585 k0_t3
  let c1_i32_581 : BitVec 32 := 1#32
  let v1580 : BitVec 32 := Scalar.muli arg12 c1_i32_581
  let v1581 : BitVec 32 := Scalar.addi c0_i32_582 v1580
  let c128_i32_587 : BitVec 32 := 128#32
  let v1582 : BitVec 32 := Scalar.muli v1581 c128_i32_587
  let v1583 : BitVec 32 := Scalar.addi v1566 v1582
  v1583
def k0_off63 (v22 : BitVec 32) (v25 : BitVec 32) (k0_t3 : Fin (k0_t3_loop v22 v25).trips) : Fin 2 → Nat :=
  let c4_i32_573 : BitVec 32 := 4#32
  let v1565 : BitVec 32 := Scalar.shrsi v22 c4_i32_573
  let c4_i32_574 : BitVec 32 := 4#32
  let v1566 : BitVec 32 := Scalar.shli v1565 c4_i32_574
  let c0_i32_582 : BitVec 32 := 0#32
  let c0_i32_583 : BitVec 32 := 0#32
  let c1_i32_585 : BitVec 32 := 1#32
  let arg12 : BitVec 32 := Scf.iv c0_i32_583 c1_i32_585 k0_t3
  let c1_i32_581 : BitVec 32 := 1#32
  let v1580 : BitVec 32 := Scalar.muli arg12 c1_i32_581
  let v1581 : BitVec 32 := Scalar.addi c0_i32_582 v1580
  let c128_i32_587 : BitVec 32 := 128#32
  let v1582 : BitVec 32 := Scalar.muli v1581 c128_i32_587
  let v1583 : BitVec 32 := Scalar.addi v1566 v1582
  let v1584 : BitVec 32 := v1583
  let v1585 : Index := Scalar.indexCast v1584
  let c0_588 : Index := 0#32
  ![v1585.toNat, 0]
def k0_off64 (v22 : BitVec 32) (v25 : BitVec 32) (k0_t3 : Fin (k0_t3_loop v22 v25).trips) : Fin 2 → Nat :=
  let c4_i32_573 : BitVec 32 := 4#32
  let v1565 : BitVec 32 := Scalar.shrsi v22 c4_i32_573
  let c4_i32_574 : BitVec 32 := 4#32
  let v1566 : BitVec 32 := Scalar.shli v1565 c4_i32_574
  let c0_i32_582 : BitVec 32 := 0#32
  let c0_i32_583 : BitVec 32 := 0#32
  let c1_i32_585 : BitVec 32 := 1#32
  let arg12 : BitVec 32 := Scf.iv c0_i32_583 c1_i32_585 k0_t3
  let c1_i32_581 : BitVec 32 := 1#32
  let v1580 : BitVec 32 := Scalar.muli arg12 c1_i32_581
  let v1581 : BitVec 32 := Scalar.addi c0_i32_582 v1580
  let c128_i32_587 : BitVec 32 := 128#32
  let v1582 : BitVec 32 := Scalar.muli v1581 c128_i32_587
  let v1583 : BitVec 32 := Scalar.addi v1566 v1582
  let v1584 : BitVec 32 := v1583
  let v1592 : Index := Scalar.indexCast v1584
  let c0_592 : Index := 0#32
  ![v1592.toNat, 0]
@[reducible] def k0_t4_loop (v22 : BitVec 32) (v25 : BitVec 32) : Scf.Loop 32 :=
  let c0_i32_583 : BitVec 32 := 0#32
  let c4_i32_573 : BitVec 32 := 4#32
  let v1565 : BitVec 32 := Scalar.shrsi v22 c4_i32_573
  let c4_i32_574 : BitVec 32 := 4#32
  let v1566 : BitVec 32 := Scalar.shli v1565 c4_i32_574
  let v1567 : BitVec 32 := Scalar.subi v25 v1566
  let c128_i32 : BitVec 32 := 128#32
  let v1568 : BitVec 32 := Scalar.addi v1567 c128_i32
  let c1_i32_575 : BitVec 32 := 1#32
  let v1569 : BitVec 32 := Scalar.subi v1568 c1_i32_575
  let c7_i32_576 : BitVec 32 := 7#32
  let v1570 : BitVec 32 := Scalar.shrsi v1569 c7_i32_576
  let c0_i32_577 : BitVec 32 := 0#32
  let v1571 : BitVec 32 := Scalar.subi v1570 c0_i32_577
  let c1_i32_578 : BitVec 32 := 1#32
  let c1_i32_579 : BitVec 32 := 1#32
  let v1572 : BitVec 32 := Scalar.subi c1_i32_578 c1_i32_579
  let v1573 : BitVec 32 := Scalar.addi v1571 v1572
  let c1_i32_580 : BitVec 32 := 1#32
  let v1574 : BitVec 32 := Scalar.divsi v1573 c1_i32_580
  let v1575 : BitVec 32 := Scalar.subi v1574 c0_i32_583
  let c1_i32_584 : BitVec 32 := 1#32
  let v1577 : BitVec 32 := Scalar.divsi v1575 c1_i32_584
  let v1578 : BitVec 32 := Scalar.muli v1577 c1_i32_584
  let v1579 : BitVec 32 := Scalar.addi c0_i32_583 v1578
  let v1576 : BitVec 32 := Scalar.addi c0_i32_583 v1575
  let c1_i32_586 : BitVec 32 := 1#32
  ⟨v1579, v1576, c1_i32_586⟩
def k0_mult2 (v22 : BitVec 32) (v25 : BitVec 32) (k0_t4 : Fin (k0_t4_loop v22 v25).trips) : BitVec 32 :=
  let c4_i32_573 : BitVec 32 := 4#32
  let v1565 : BitVec 32 := Scalar.shrsi v22 c4_i32_573
  let c4_i32_574 : BitVec 32 := 4#32
  let v1566 : BitVec 32 := Scalar.shli v1565 c4_i32_574
  let c0_i32_582 : BitVec 32 := 0#32
  let c0_i32_583 : BitVec 32 := 0#32
  let v1567 : BitVec 32 := Scalar.subi v25 v1566
  let c128_i32 : BitVec 32 := 128#32
  let v1568 : BitVec 32 := Scalar.addi v1567 c128_i32
  let c1_i32_575 : BitVec 32 := 1#32
  let v1569 : BitVec 32 := Scalar.subi v1568 c1_i32_575
  let c7_i32_576 : BitVec 32 := 7#32
  let v1570 : BitVec 32 := Scalar.shrsi v1569 c7_i32_576
  let c0_i32_577 : BitVec 32 := 0#32
  let v1571 : BitVec 32 := Scalar.subi v1570 c0_i32_577
  let c1_i32_578 : BitVec 32 := 1#32
  let c1_i32_579 : BitVec 32 := 1#32
  let v1572 : BitVec 32 := Scalar.subi c1_i32_578 c1_i32_579
  let v1573 : BitVec 32 := Scalar.addi v1571 v1572
  let c1_i32_580 : BitVec 32 := 1#32
  let v1574 : BitVec 32 := Scalar.divsi v1573 c1_i32_580
  let v1575 : BitVec 32 := Scalar.subi v1574 c0_i32_583
  let c1_i32_584 : BitVec 32 := 1#32
  let v1577 : BitVec 32 := Scalar.divsi v1575 c1_i32_584
  let v1578 : BitVec 32 := Scalar.muli v1577 c1_i32_584
  let v1579 : BitVec 32 := Scalar.addi c0_i32_583 v1578
  let c1_i32_586 : BitVec 32 := 1#32
  let arg12 : BitVec 32 := Scf.iv v1579 c1_i32_586 k0_t4
  let c1_i32_581 : BitVec 32 := 1#32
  let v1580 : BitVec 32 := Scalar.muli arg12 c1_i32_581
  let v1581 : BitVec 32 := Scalar.addi c0_i32_582 v1580
  let c128_i32_587 : BitVec 32 := 128#32
  let v1582 : BitVec 32 := Scalar.muli v1581 c128_i32_587
  let v1583 : BitVec 32 := Scalar.addi v1566 v1582
  v1583
def k0_off65 (v22 : BitVec 32) (v25 : BitVec 32) (k0_t4 : Fin (k0_t4_loop v22 v25).trips) : Fin 2 → Nat :=
  let c4_i32_573 : BitVec 32 := 4#32
  let v1565 : BitVec 32 := Scalar.shrsi v22 c4_i32_573
  let c4_i32_574 : BitVec 32 := 4#32
  let v1566 : BitVec 32 := Scalar.shli v1565 c4_i32_574
  let c0_i32_582 : BitVec 32 := 0#32
  let c0_i32_583 : BitVec 32 := 0#32
  let v1567 : BitVec 32 := Scalar.subi v25 v1566
  let c128_i32 : BitVec 32 := 128#32
  let v1568 : BitVec 32 := Scalar.addi v1567 c128_i32
  let c1_i32_575 : BitVec 32 := 1#32
  let v1569 : BitVec 32 := Scalar.subi v1568 c1_i32_575
  let c7_i32_576 : BitVec 32 := 7#32
  let v1570 : BitVec 32 := Scalar.shrsi v1569 c7_i32_576
  let c0_i32_577 : BitVec 32 := 0#32
  let v1571 : BitVec 32 := Scalar.subi v1570 c0_i32_577
  let c1_i32_578 : BitVec 32 := 1#32
  let c1_i32_579 : BitVec 32 := 1#32
  let v1572 : BitVec 32 := Scalar.subi c1_i32_578 c1_i32_579
  let v1573 : BitVec 32 := Scalar.addi v1571 v1572
  let c1_i32_580 : BitVec 32 := 1#32
  let v1574 : BitVec 32 := Scalar.divsi v1573 c1_i32_580
  let v1575 : BitVec 32 := Scalar.subi v1574 c0_i32_583
  let c1_i32_584 : BitVec 32 := 1#32
  let v1577 : BitVec 32 := Scalar.divsi v1575 c1_i32_584
  let v1578 : BitVec 32 := Scalar.muli v1577 c1_i32_584
  let v1579 : BitVec 32 := Scalar.addi c0_i32_583 v1578
  let c1_i32_586 : BitVec 32 := 1#32
  let arg12 : BitVec 32 := Scf.iv v1579 c1_i32_586 k0_t4
  let c1_i32_581 : BitVec 32 := 1#32
  let v1580 : BitVec 32 := Scalar.muli arg12 c1_i32_581
  let v1581 : BitVec 32 := Scalar.addi c0_i32_582 v1580
  let c128_i32_587 : BitVec 32 := 128#32
  let v1582 : BitVec 32 := Scalar.muli v1581 c128_i32_587
  let v1583 : BitVec 32 := Scalar.addi v1566 v1582
  let v1584 : BitVec 32 := v1583
  let v1585 : Index := Scalar.indexCast v1584
  let c0_588 : Index := 0#32
  ![v1585.toNat, 0]
def k0_off66 (v22 : BitVec 32) (v25 : BitVec 32) (k0_t4 : Fin (k0_t4_loop v22 v25).trips) : Fin 2 → Nat :=
  let c4_i32_573 : BitVec 32 := 4#32
  let v1565 : BitVec 32 := Scalar.shrsi v22 c4_i32_573
  let c4_i32_574 : BitVec 32 := 4#32
  let v1566 : BitVec 32 := Scalar.shli v1565 c4_i32_574
  let c0_i32_582 : BitVec 32 := 0#32
  let c0_i32_583 : BitVec 32 := 0#32
  let v1567 : BitVec 32 := Scalar.subi v25 v1566
  let c128_i32 : BitVec 32 := 128#32
  let v1568 : BitVec 32 := Scalar.addi v1567 c128_i32
  let c1_i32_575 : BitVec 32 := 1#32
  let v1569 : BitVec 32 := Scalar.subi v1568 c1_i32_575
  let c7_i32_576 : BitVec 32 := 7#32
  let v1570 : BitVec 32 := Scalar.shrsi v1569 c7_i32_576
  let c0_i32_577 : BitVec 32 := 0#32
  let v1571 : BitVec 32 := Scalar.subi v1570 c0_i32_577
  let c1_i32_578 : BitVec 32 := 1#32
  let c1_i32_579 : BitVec 32 := 1#32
  let v1572 : BitVec 32 := Scalar.subi c1_i32_578 c1_i32_579
  let v1573 : BitVec 32 := Scalar.addi v1571 v1572
  let c1_i32_580 : BitVec 32 := 1#32
  let v1574 : BitVec 32 := Scalar.divsi v1573 c1_i32_580
  let v1575 : BitVec 32 := Scalar.subi v1574 c0_i32_583
  let c1_i32_584 : BitVec 32 := 1#32
  let v1577 : BitVec 32 := Scalar.divsi v1575 c1_i32_584
  let v1578 : BitVec 32 := Scalar.muli v1577 c1_i32_584
  let v1579 : BitVec 32 := Scalar.addi c0_i32_583 v1578
  let c1_i32_586 : BitVec 32 := 1#32
  let arg12 : BitVec 32 := Scf.iv v1579 c1_i32_586 k0_t4
  let c1_i32_581 : BitVec 32 := 1#32
  let v1580 : BitVec 32 := Scalar.muli arg12 c1_i32_581
  let v1581 : BitVec 32 := Scalar.addi c0_i32_582 v1580
  let c128_i32_587 : BitVec 32 := 128#32
  let v1582 : BitVec 32 := Scalar.muli v1581 c128_i32_587
  let v1583 : BitVec 32 := Scalar.addi v1566 v1582
  let v1584 : BitVec 32 := v1583
  let v1592 : Index := Scalar.indexCast v1584
  let c0_592 : Index := 0#32
  ![v1592.toNat, 0]

def k0_chk1 (v22 : BitVec 32) (v25 : BitVec 32) : Prop :=
  (∀ (k0_h2 : k0_cond2 v22 v25 = 1#1), (k0_t3_loop v22 v25).OK) ∧
  (∀ k0_t3 : Fin (k0_t3_loop v22 v25).trips, ∀ (k0_h2 : k0_cond2 v22 v25 = 1#1), 16 ∣ (k0_mult1 v22 v25 k0_t3).toNat) ∧
  (∀ k0_t3 : Fin (k0_t3_loop v22 v25).trips, ∀ (k0_h2 : k0_cond2 v22 v25 = 1#1), ∀ a, (k0_off63 v22 v25 k0_t3) a + S128x1536.size a ≤ S1408x1536.size a) ∧
  (∀ k0_t3 : Fin (k0_t3_loop v22 v25).trips, ∀ (k0_h2 : k0_cond2 v22 v25 = 1#1), ∀ a, (k0_off64 v22 v25 k0_t3) a + S128x512.size a ≤ S1408x512.size a) ∧
  (∀ (k0_h2 : k0_cond2 v22 v25 = 1#1), (k0_t4_loop v22 v25).OK) ∧
  (∀ k0_t4 : Fin (k0_t4_loop v22 v25).trips, ∀ (k0_h2 : k0_cond2 v22 v25 = 1#1), 16 ∣ (k0_mult2 v22 v25 k0_t4).toNat) ∧
  (∀ k0_t4 : Fin (k0_t4_loop v22 v25).trips, ∀ (k0_h2 : k0_cond2 v22 v25 = 1#1), ∀ a, (k0_off65 v22 v25 k0_t4) a + S128x1536.size a ≤ S1408x1536.size a) ∧
  (∀ k0_t4 : Fin (k0_t4_loop v22 v25).trips, ∀ (k0_h2 : k0_cond2 v22 v25 = 1#1), ∀ a, (k0_off66 v22 v25 k0_t4) a + S128x512.size a ≤ S1408x512.size a)
theorem k0_t3_ok : ∀ (v22 : BitVec 32) (v25 : BitVec 32) (k0_hw1 : k0_chk1 v22 v25), ∀ (k0_h2 : k0_cond2 v22 v25 = 1#1), (k0_t3_loop v22 v25).OK := fun v22 v25 k0_hw1 k0_h2 => k0_hw1.1 k0_h2
theorem k0_mult1_dvd : ∀ (v22 : BitVec 32) (v25 : BitVec 32) (k0_hw1 : k0_chk1 v22 v25) (k0_t3 : Fin (k0_t3_loop v22 v25).trips), ∀ (k0_h2 : k0_cond2 v22 v25 = 1#1), 16 ∣ (k0_mult1 v22 v25 k0_t3).toNat := fun v22 v25 k0_hw1 k0_t3 k0_h2 => k0_hw1.2.1 k0_t3 k0_h2
theorem k0_off63_inb : ∀ (v22 : BitVec 32) (v25 : BitVec 32) (k0_hw1 : k0_chk1 v22 v25) (k0_t3 : Fin (k0_t3_loop v22 v25).trips), ∀ (k0_h2 : k0_cond2 v22 v25 = 1#1), ∀ a, (k0_off63 v22 v25 k0_t3) a + S128x1536.size a ≤ S1408x1536.size a := fun v22 v25 k0_hw1 k0_t3 k0_h2 => k0_hw1.2.2.1 k0_t3 k0_h2
theorem k0_off64_inb : ∀ (v22 : BitVec 32) (v25 : BitVec 32) (k0_hw1 : k0_chk1 v22 v25) (k0_t3 : Fin (k0_t3_loop v22 v25).trips), ∀ (k0_h2 : k0_cond2 v22 v25 = 1#1), ∀ a, (k0_off64 v22 v25 k0_t3) a + S128x512.size a ≤ S1408x512.size a := fun v22 v25 k0_hw1 k0_t3 k0_h2 => k0_hw1.2.2.2.1 k0_t3 k0_h2
theorem k0_t4_ok : ∀ (v22 : BitVec 32) (v25 : BitVec 32) (k0_hw1 : k0_chk1 v22 v25), ∀ (k0_h2 : k0_cond2 v22 v25 = 1#1), (k0_t4_loop v22 v25).OK := fun v22 v25 k0_hw1 k0_h2 => k0_hw1.2.2.2.2.1 k0_h2
theorem k0_mult2_dvd : ∀ (v22 : BitVec 32) (v25 : BitVec 32) (k0_hw1 : k0_chk1 v22 v25) (k0_t4 : Fin (k0_t4_loop v22 v25).trips), ∀ (k0_h2 : k0_cond2 v22 v25 = 1#1), 16 ∣ (k0_mult2 v22 v25 k0_t4).toNat := fun v22 v25 k0_hw1 k0_t4 k0_h2 => k0_hw1.2.2.2.2.2.1 k0_t4 k0_h2
theorem k0_off65_inb : ∀ (v22 : BitVec 32) (v25 : BitVec 32) (k0_hw1 : k0_chk1 v22 v25) (k0_t4 : Fin (k0_t4_loop v22 v25).trips), ∀ (k0_h2 : k0_cond2 v22 v25 = 1#1), ∀ a, (k0_off65 v22 v25 k0_t4) a + S128x1536.size a ≤ S1408x1536.size a := fun v22 v25 k0_hw1 k0_t4 k0_h2 => k0_hw1.2.2.2.2.2.2.1 k0_t4 k0_h2
theorem k0_off66_inb : ∀ (v22 : BitVec 32) (v25 : BitVec 32) (k0_hw1 : k0_chk1 v22 v25) (k0_t4 : Fin (k0_t4_loop v22 v25).trips), ∀ (k0_h2 : k0_cond2 v22 v25 = 1#1), ∀ a, (k0_off66 v22 v25 k0_t4) a + S128x512.size a ≤ S1408x512.size a := fun v22 v25 k0_hw1 k0_t4 k0_h2 => k0_hw1.2.2.2.2.2.2.2 k0_t4 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1280x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S7x384x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x12x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S10x128x1536 : Shape := ⟨3, ![10, 128, 1536]⟩
abbrev S1536x4096 : Shape := ⟨2, ![1536, 4096]⟩
abbrev S4096 : Shape := ⟨1, ![4096]⟩
abbrev S7x384x4096 : Shape := ⟨3, ![7, 384, 4096]⟩
abbrev S7x12x4096 : Shape := ⟨3, ![7, 12, 4096]⟩
abbrev S8 : Shape := ⟨1, ![8]⟩
abbrev S1280x1536 : Shape := ⟨2, ![1280, 1536]⟩
abbrev S7x12x32x1x4096 : Shape := ⟨5, ![7, 12, 32, 1, 4096]⟩
abbrev S_ : Shape := ⟨0, ![]⟩
abbrev S4 : Shape := ⟨1, ![4]⟩
abbrev S1x1x1x4x1 : Shape := ⟨5, ![1, 1, 1, 4, 1]⟩
abbrev S7x12x32x4x4096 : Shape := ⟨5, ![7, 12, 32, 4, 4096]⟩
abbrev S7x12x1x1x4096 : Shape := ⟨5, ![7, 12, 1, 1, 4096]⟩
abbrev S7x1536x4096 : Shape := ⟨3, ![7, 1536, 4096]⟩
abbrev S1280 : Shape := ⟨1, ![1280]⟩
abbrev S1x1280 : Shape := ⟨2, ![1, 1280]⟩
abbrev S7 : Shape := ⟨1, ![7]⟩
abbrev S7x1 : Shape := ⟨2, ![7, 1]⟩
abbrev S7x1280 : Shape := ⟨2, ![7, 1280]⟩
abbrev S7x4096x1280 : Shape := ⟨3, ![7, 4096, 1280]⟩
abbrev S7x1280x4096 : Shape := ⟨3, ![7, 1280, 4096]⟩
abbrev S7x1280x1 : Shape := ⟨3, ![7, 1280, 1]⟩
abbrev S1280x4096 : Shape := ⟨2, ![1280, 4096]⟩
abbrev S1x4096 : Shape := ⟨2, ![1, 4096]⟩

abbrev nBuf : Space → Nat
  | .hbm => 93
  | .vmem => 5
  | .smem => 0
  | _ => 0

abbrev bufTy : (tb : Table) → Fin (tcTables nBuf tb) → BufTy
  | .hbm, ⟨0, _⟩ => ⟨S10x128x1536, .bf16⟩
  | .hbm, ⟨1, _⟩ => ⟨S1536x4096, .fp8e4m3⟩
  | .hbm, ⟨2, _⟩ => ⟨S4096, .f32⟩
  | .hbm, ⟨3, _⟩ => ⟨S7x384x4096, .i16⟩
  | .hbm, ⟨4, _⟩ => ⟨S7x12x4096, .bf16⟩
  | .hbm, ⟨5, _⟩ => ⟨S8, .i32⟩
  | .hbm, ⟨6, _⟩ => ⟨S1280x1536, .bf16⟩
  | .hbm, ⟨7, _⟩ => ⟨S7x384x4096, .i32⟩
  | .hbm, ⟨8, _⟩ => ⟨S7x12x32x1x4096, .i32⟩
  | .hbm, ⟨9, _⟩ => ⟨S_, .i32⟩
  | .hbm, ⟨10, _⟩ => ⟨S7x12x32x1x4096, .i32⟩
  | .hbm, ⟨11, _⟩ => ⟨S7x12x32x1x4096, .i32⟩
  | .hbm, ⟨12, _⟩ => ⟨S_, .i32⟩
  | .hbm, ⟨13, _⟩ => ⟨S7x12x32x1x4096, .i32⟩
  | .hbm, ⟨14, _⟩ => ⟨S7x12x32x1x4096, .i1⟩
  | .hbm, ⟨15, _⟩ => ⟨S_, .i32⟩
  | .hbm, ⟨16, _⟩ => ⟨S7x12x32x1x4096, .i32⟩
  | .hbm, ⟨17, _⟩ => ⟨S7x12x32x1x4096, .i32⟩
  | .hbm, ⟨18, _⟩ => ⟨S7x12x32x1x4096, .i32⟩
  | .hbm, ⟨19, _⟩ => ⟨S7x12x32x1x4096, .bf16⟩
  | .hbm, ⟨20, _⟩ => ⟨S_, .i32⟩
  | .hbm, ⟨21, _⟩ => ⟨S7x12x32x1x4096, .i32⟩
  | .hbm, ⟨22, _⟩ => ⟨S7x12x32x1x4096, .i32⟩
  | .hbm, ⟨23, _⟩ => ⟨S_, .i32⟩
  | .hbm, ⟨24, _⟩ => ⟨S7x12x32x1x4096, .i32⟩
  | .hbm, ⟨25, _⟩ => ⟨S7x12x32x1x4096, .i32⟩
  | .hbm, ⟨26, _⟩ => ⟨S_, .i32⟩
  | .hbm, ⟨27, _⟩ => ⟨S7x12x32x1x4096, .i32⟩
  | .hbm, ⟨28, _⟩ => ⟨S7x12x32x1x4096, .i1⟩
  | .hbm, ⟨29, _⟩ => ⟨S_, .i32⟩
  | .hbm, ⟨30, _⟩ => ⟨S7x12x32x1x4096, .i32⟩
  | .hbm, ⟨31, _⟩ => ⟨S7x12x32x1x4096, .i32⟩
  | .hbm, ⟨32, _⟩ => ⟨S7x12x32x1x4096, .i32⟩
  | .hbm, ⟨33, _⟩ => ⟨S7x12x32x1x4096, .bf16⟩
  | .hbm, ⟨34, _⟩ => ⟨S_, .i32⟩
  | .hbm, ⟨35, _⟩ => ⟨S7x12x32x1x4096, .i32⟩
  | .hbm, ⟨36, _⟩ => ⟨S7x12x32x1x4096, .i32⟩
  | .hbm, ⟨37, _⟩ => ⟨S_, .i32⟩
  | .hbm, ⟨38, _⟩ => ⟨S7x12x32x1x4096, .i32⟩
  | .hbm, ⟨39, _⟩ => ⟨S7x12x32x1x4096, .i32⟩
  | .hbm, ⟨40, _⟩ => ⟨S_, .i32⟩
  | .hbm, ⟨41, _⟩ => ⟨S7x12x32x1x4096, .i32⟩
  | .hbm, ⟨42, _⟩ => ⟨S7x12x32x1x4096, .i32⟩
  | .hbm, ⟨43, _⟩ => ⟨S_, .i32⟩
  | .hbm, ⟨44, _⟩ => ⟨S7x12x32x1x4096, .i32⟩
  | .hbm, ⟨45, _⟩ => ⟨S7x12x32x1x4096, .i32⟩
  | .hbm, ⟨46, _⟩ => ⟨S4, .i32⟩
  | .hbm, ⟨47, _⟩ => ⟨S1x1x1x4x1, .i32⟩
  | .hbm, ⟨48, _⟩ => ⟨S7x12x32x4x4096, .i32⟩
  | .hbm, ⟨49, _⟩ => ⟨S7x12x32x4x4096, .i32⟩
  | .hbm, ⟨50, _⟩ => ⟨S7x12x32x4x4096, .i1⟩
  | .hbm, ⟨51, _⟩ => ⟨S_, .bf16⟩
  | .hbm, ⟨52, _⟩ => ⟨S7x12x32x4x4096, .bf16⟩
  | .hbm, ⟨53, _⟩ => ⟨S7x12x32x4x4096, .bf16⟩
  | .hbm, ⟨54, _⟩ => ⟨S7x12x32x4x4096, .bf16⟩
  | .hbm, ⟨55, _⟩ => ⟨S7x12x32x4x4096, .i32⟩
  | .hbm, ⟨56, _⟩ => ⟨S7x12x32x4x4096, .i32⟩
  | .hbm, ⟨57, _⟩ => ⟨S7x12x32x4x4096, .i1⟩
  | .hbm, ⟨58, _⟩ => ⟨S_, .bf16⟩
  | .hbm, ⟨59, _⟩ => ⟨S7x12x32x4x4096, .bf16⟩
  | .hbm, ⟨60, _⟩ => ⟨S7x12x32x4x4096, .bf16⟩
  | .hbm, ⟨61, _⟩ => ⟨S7x12x32x4x4096, .bf16⟩
  | .hbm, ⟨62, _⟩ => ⟨S7x12x32x4x4096, .bf16⟩
  | .hbm, ⟨63, _⟩ => ⟨S7x12x1x1x4096, .bf16⟩
  | .hbm, ⟨64, _⟩ => ⟨S7x12x32x4x4096, .bf16⟩
  | .hbm, ⟨65, _⟩ => ⟨S7x12x32x4x4096, .bf16⟩
  | .hbm, ⟨66, _⟩ => ⟨S7x1536x4096, .bf16⟩
  | .hbm, ⟨67, _⟩ => ⟨S1280, .i32⟩
  | .hbm, ⟨68, _⟩ => ⟨S1x1280, .i32⟩
  | .hbm, ⟨69, _⟩ => ⟨S7, .i32⟩
  | .hbm, ⟨70, _⟩ => ⟨S7x1, .i32⟩
  | .hbm, ⟨71, _⟩ => ⟨S7x1280, .i32⟩
  | .hbm, ⟨72, _⟩ => ⟨S7x1280, .i32⟩
  | .hbm, ⟨73, _⟩ => ⟨S7x1280, .i1⟩
  | .hbm, ⟨74, _⟩ => ⟨S1x1280, .i32⟩
  | .hbm, ⟨75, _⟩ => ⟨S7, .i32⟩
  | .hbm, ⟨76, _⟩ => ⟨S7x1, .i32⟩
  | .hbm, ⟨77, _⟩ => ⟨S7x1280, .i32⟩
  | .hbm, ⟨78, _⟩ => ⟨S7x1280, .i32⟩
  | .hbm, ⟨79, _⟩ => ⟨S7x1280, .i1⟩
  | .hbm, ⟨80, _⟩ => ⟨S7x1280, .i1⟩
  | .hbm, ⟨81, _⟩ => ⟨S7x4096x1280, .f32⟩
  | .hbm, ⟨82, _⟩ => ⟨S7x1280x4096, .f32⟩
  | .hbm, ⟨83, _⟩ => ⟨S7x1280x1, .i1⟩
  | .hbm, ⟨84, _⟩ => ⟨S_, .f32⟩
  | .hbm, ⟨85, _⟩ => ⟨S_, .f32⟩
  | .hbm, ⟨86, _⟩ => ⟨S7x1280x4096, .i1⟩
  | .hbm, ⟨87, _⟩ => ⟨S7x1280x4096, .f32⟩
  | .hbm, ⟨88, _⟩ => ⟨S7x1280x4096, .f32⟩
  | .hbm, ⟨89, _⟩ => ⟨S_, .f32⟩
  | .hbm, ⟨90, _⟩ => ⟨S1280x4096, .f32⟩
  | .hbm, ⟨91, _⟩ => ⟨S1x4096, .f32⟩
  | .hbm, ⟨92, _⟩ => ⟨S1280x4096, .bf16⟩
  | .local _ .vmem, ⟨0, _⟩ => ⟨S1280x1536, .bf16⟩
  | .local _ .vmem, ⟨1, _⟩ => ⟨S1536x4096, .fp8e4m3⟩
  | .local _ .vmem, ⟨2, _⟩ => ⟨S1x4096, .f32⟩
  | .local _ .vmem, ⟨3, _⟩ => ⟨S1280x4096, .f32⟩
  | .local _ .vmem, ⟨4, _⟩ => ⟨S1280x4096, .bf16⟩
  | _, _ => ⟨S10x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_v25 : Ref sig .tc := ⟨.hbm, 41, rfl⟩
abbrev main_v26 : Ref sig .tc := ⟨.hbm, 42, rfl⟩
abbrev main_c_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1280x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/- What the kernel body leaves in its buffers at one grid point, as plain functions of the blocks it reads: the permuted
   activations, one tenant's dequantised weight, one chunk of 128 rows added to the accumulator, the chunks of one tenant,
   the tenants in turn, and the result block. Everything here is stated for any values of the float types. -/
module

public import proofs.«01_k».proof.Proof.Gen.KernelIdeal.Skeleton
public import Idealize.ShloMosaic.Lib.ValueIdxCore

@[expose] public section

noncomputable section

namespace Cert.Proof

open Cert.KernelIdeal Cert.KernelIdeal.Gen
open Idealize.ShloMosaic Idealize.ShloMosaic.TcCoe Idealize.ShloMosaic.ValueIdx

variable {F : FTy → Type} [FloatOps F]

/-! ## The permuted activations -/

/-- The activations as the first grid point stores them: in each 16-row, 128-lane tile the lanes permuted, and zero in
    the 128 rows past the last token. -/
def xpad (x : FVec F S1280x1536 .bf16) : FVec F S1408x1536 .bf16 := fun y =>
  if (y 0).val < 1280 then
    k0_pay8 (fun j => x (ix2 (Fin.ofNat 1280 ((y 0).val / 16 * 16 + (j 0).val)) (Fin.ofNat 1536 ((y 1).val / 128 * 128 + (j 1).val))))
      (ix2 (Fin.ofNat 16 (y 0).val) (Fin.ofNat 128 (y 1).val))
  else k0_pay2 (ix2 (Fin.ofNat 128 (y 0).val) (y 1))

/-! ## One tenant's dequantised weight -/

/-- The 16 rows of packed words of tenant `g` that start at row `16 * b`. -/
def packedRows (pk : Vec F S7x384x512 .i16) (g : Fin 7) (b : ℕ) : Vec F S1x16x512 .i16 :=
  fun j => pk (ix3 g (Fin.ofNat 384 (16 * b + (j 1).val)) (j 2))

/-- The scale row number `q` of tenant `g`. -/
def scaleRow (sc : FVec F S7x12x512 .bf16) (g : Fin 7) (q : ℕ) : FVec F S1x1x512 .bf16 :=
  fun j => sc (ix3 g (Fin.ofNat 12 q) (j 2))

/-- The packed words seen as 32-bit words, two rows to a word. -/
def pairWords (pk : Vec F S1x16x512 .i16) : IVec S8x512 32 :=
  bitcast S8x512 32 (shapeCast S16x512 pk shapeCasts_S1x16x512_S16x512) bitcasts_S16x512_w16_S8x512_w32

/-- The signed value in the low four bits of each 16-bit half of the words, times the scale row. -/
def nibble (w : IVec S8x512 32) (sc : FVec F S1x1x512 .bf16) : FVec F S16x512 .bf16 :=
  mulf
    (subf
      (bitcastToFloat .bf16 (bitcast S16x512 16
        (xori (andi w (broadcast S8x512 983055#32)) (broadcast S8x512 1124614920#32)) bitcasts_S8x512_w32_S16x512_w16))
      (broadcast S16x512 (Scalar.ofBits .bf16 0x4308#16)))
    (broadcastTo S16x512 (shapeCast S1x512 sc shapeCasts_S1x1x512_S1x512) broadcasts_S1x512_S16x512)

/-- The first value of each packed word, scaled. -/
def val0 (pk : Vec F S1x16x512 .i16) (sc : FVec F S1x1x512 .bf16) : FVec F S16x512 .bf16 := nibble (pairWords pk) sc

/-- The second value of each packed word, scaled. -/
def val1 (pk : Vec F S1x16x512 .i16) (sc : FVec F S1x1x512 .bf16) : FVec F S16x512 .bf16 :=
  nibble (shrsi (pairWords pk) (broadcast S8x512 4#32)) sc

/-- The bits of each packed word that say where the first value goes. -/
def pos0 (pk : Vec F S1x16x512 .i16) : IVec S16x512 16 :=
  bitcast S16x512 16 (andi (pairWords pk) (broadcast S8x512 50332416#32)) bitcasts_S8x512_w32_S16x512_w16

/-- The bits of each packed word that say where the second value goes. -/
def pos1 (pk : Vec F S1x16x512 .i16) : IVec S16x512 16 :=
  bitcast S16x512 16 (andi (pairWords pk) (broadcast S8x512 201329664#32)) bitcasts_S8x512_w32_S16x512_w16

/-- Zero in every place. -/
def zeros : FVec F S16x512 .bf16 := broadcast S16x512 (Scalar.ofBits .bf16 0x0000#16)

/-- Position `p` of the four positions of each packed word: the first value where the word puts its first value there, else
    the second value where the word puts its second value there, else zero. -/
def tile (p : ℕ) (pk : Vec F S1x16x512 .i16) (sc : FVec F S1x1x512 .bf16) : FVec F S16x512 .bf16 :=
  match p with
  | 0 => select (cmpi .eq (pos0 pk) (broadcast S16x512 0#16)) (val0 pk sc) zeros
  | 1 => select (cmpi .eq (pos0 pk) (broadcast S16x512 256#16)) (val0 pk sc)
      (select (cmpi .eq (pos1 pk) (broadcast S16x512 1024#16)) (val1 pk sc) zeros)
  | 2 => select (cmpi .eq (pos0 pk) (broadcast S16x512 512#16)) (val0 pk sc)
      (select (cmpi .eq (pos1 pk) (broadcast S16x512 2048#16)) (val1 pk sc) zeros)
  | _ => select (cmpi .eq (pos1 pk) (broadcast S16x512 3072#16)) (val1 pk sc) zeros

/-- The dequantised weight of tenant `g`: rows `64 * b + 16 * p + r` hold position `p` of packed row `16 * b + r`. -/
def dequant (pk : Vec F S7x384x512 .i16) (sc : FVec F S7x12x512 .bf16) (g : Fin 7) : FVec F S1536x512 .bf16 := fun y =>
  tile ((y 0).val / 16 % 4) (packedRows pk g ((y 0).val / 64)) (scaleRow sc g ((y 0).val / 128)) (ix2 (Fin.ofNat 16 (y 0).val) (y 1))

/-! ## The chunks of one tenant -/

/-- The first row of chunk `k` of the tenant whose rows start at the word `lo`. -/
def chunkWord (lo : BitVec 32) (k : ℕ) : BitVec 32 :=
  Scalar.addi (Scalar.shli (Scalar.shrsi lo 4#32) 4#32) (Scalar.muli (Scalar.addi 0#32 (Scalar.muli (Scf.iv 0#32 1#32 k) 1#32)) 128#32)

/-- The 128 rows of a buffer that start at row `s`. -/
def rowsFrom (xp : FVec F S1408x1536 .bf16) (s : ℕ) : FVec F S128x1536 .bf16 := fun j => xp (ix2 (Fin.ofNat 1408 (s + (j 0).val)) (j 1))

/-- What chunk `k` adds: the product of its rows and the tenant's weight where the row is the tenant's, else zero. -/
def chunkAdd (lo hi : BitVec 32) (k : ℕ) (rows : FVec F S128x1536 .bf16) (dw : FVec F S1536x512 .bf16) : FVec F S128x512 .f32 :=
  select
    (andi
      (cmpi .sge (addi (broadcast S128x512 (chunkWord lo k)) (iota .tc S128x512 32 [0] iota_S128x512_d0_w32)) (broadcast S128x512 lo))
      (cmpi .slt (addi (broadcast S128x512 (chunkWord lo k)) (iota .tc S128x512 32 [0] iota_S128x512_d0_w32)) (broadcast S128x512 hi)))
    (matmul dot_S128x1536_S1536x512_S128x512_1_0_0_1_n_n none rows dw (constant S128x512 .f32 0x00000000#32))
    (broadcast S128x512 (Scalar.ofBits .f32 0x00000000#32))

/-- The accumulator after chunk `k`. -/
def chunkStep (xp : FVec F S1408x1536 .bf16) (dw : FVec F S1536x512 .bf16) (lo hi : BitVec 32) (k : ℕ) (acc : FVec F S1408x512 .f32) :
    FVec F S1408x512 .f32 := fun y =>
  if (chunkWord lo k).toNat ≤ (y 0).val ∧ (y 0).val < (chunkWord lo k).toNat + 128 then
    FloatOps.addf (acc y) (chunkAdd lo hi k (rowsFrom xp (chunkWord lo k).toNat) dw (ix2 (Fin.ofNat 128 ((y 0).val - (chunkWord lo k).toNat)) (y 1)))
  else acc y

/-- The accumulator after the chunks before `k`. -/
def chunks (xp : FVec F S1408x1536 .bf16) (dw : FVec F S1536x512 .bf16) (lo hi : BitVec 32) (acc : FVec F S1408x512 .f32) : ℕ → FVec F S1408x512 .f32
  | 0 => acc
  | k + 1 => chunkStep xp dw lo hi k (chunks xp dw lo hi acc k)

/-! ## The tenants in turn, and the result block -/

/-- The accumulator after tenant `g`, whose rows are `lo ≤ row < hi`: unchanged when it has no row. -/
def tenantStep (xp : FVec F S1408x1536 .bf16) (dw : FVec F S1536x512 .bf16) (lo hi : BitVec 32) (acc : FVec F S1408x512 .f32) : FVec F S1408x512 .f32 :=
  if k0_cond2 lo hi = 1#1 then chunks xp dw lo hi acc (k0_t3_loop lo hi).trips else acc

/-- The accumulator after the tenants before `g`. -/
def tenants (tbl : Vec F S8 .i32) (xp : FVec F S1408x1536 .bf16) (pk : Vec F S7x384x512 .i16) (sc : FVec F S7x12x512 .bf16)
    (acc : FVec F S1408x512 .f32) : ℕ → FVec F S1408x512 .f32
  | 0 => acc
  | g + 1 => tenantStep xp (dequant pk sc (Fin.ofNat 7 g)) (tbl (ix1 (Fin.ofNat 8 g))) (tbl (ix1 (Fin.ofNat 8 (g + 1)))) (tenants tbl xp pk sc acc g)

/-- The accumulator before the first tenant, in the rows of the tokens: the base product, scaled. -/
def baseAcc (x : FVec F S1280x1536 .bf16) (w : FVec F S1536x512 .fp8e4m3) (bs : FVec F S1x512 .f32) : FVec F S1408x512 .f32 :=
  fun y => k0_pay3 x w bs (ix2 (Fin.ofNat 1280 (y 0).val) (y 1))

/-- The result block of one grid point. -/
def outBlock (tbl : Vec F S8 .i32) (x : FVec F S1280x1536 .bf16) (w : FVec F S1536x512 .fp8e4m3) (bs : FVec F S1x512 .f32)
    (pk : Vec F S7x384x512 .i16) (sc : FVec F S7x12x512 .bf16) : FVec F S1280x512 .bf16 :=
  k0_pay7 (fun y => tenants tbl (xpad x) pk sc (baseAcc x w bs) 7 (ix2 (Fin.ofNat 1408 (y 0).val) (y 1)))

end Cert.Proof

end
-- ==== Proof.Fill.lean ====
/- The first grid point stores the permuted activations, tile by tile. -/
module

public import proofs.«01_k».proof.Proof.Gen.KernelIdeal.Loops
public import proofs.«01_k».proof.Proof.Spec
public import Idealize.ShloMosaic.Lib.WritesUnit
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (i : grid0.Coords) (arg1 : Memref sig .tc .smem S8 .i32) (harg1 : arg1.IsWhole) (arg2 : Memref sig .tc .vmem S1280x1536 .bf16) (harg2 : arg2.IsWhole) (arg3 : Memref sig .tc .vmem S1536x512 .fp8e4m3) (harg3 : arg3.IsWhole) (arg4 : Memref sig .tc .vmem S1x512 .f32) (harg4 : arg4.IsWhole) (arg5 : Memref sig .tc .vmem S7x384x512 .i16) (harg5 : arg5.IsWhole) (arg6 : Memref sig .tc .vmem S7x12x512 .bf16) (harg6 : arg6.IsWhole) (arg7 : Memref sig .tc .vmem S1280x512 .bf16) (harg7 : arg7.IsWhole) (arg8 : Memref sig .tc .vmem S1408x1536 .bf16) (harg8 : arg8.IsWhole) (arg9 : Memref sig .tc .vmem S1536x512 .bf16) (harg9 : arg9.IsWhole) (arg10 : Memref sig .tc .vmem S1408x512 .f32) (harg10 : arg10.IsWhole)

/-- What the first `m` tiles of trip `k` leave: in the trip's 16 rows the columns before `128 * m` hold `xpad`, and the
    rows before the trip's are as they were. -/
def Filled (k m : ℕ) (X : FVec F S1280x1536 .bf16) (g f : FVec F S1408x1536 .bf16) : Prop :=
  ∀ y : S1408x1536.Idx, (16 * k ≤ (y 0).val → (y 0).val < 16 * k + 16 → (y 1).val < 128 * m → g y = xpad X y) ∧ ((y 0).val < 16 * k → g y = f y)

/-- Before the first tile nothing has changed. -/
theorem filled_nil (k : ℕ) (X : FVec F S1280x1536 .bf16) (f : arg8.view.ty.Contents (Elt F)) :
    Filled k 0 X (arg8.view.read (Elt F) (arg8.view.writes (Elt F) f [])) (arg8.view.read (Elt F) f) :=
  fun y => ⟨fun _ _ h => absurd h (by omega), fun _ => rfl⟩

/-- The store of one more tile, the permuted tile of the activations at the same place. -/
theorem filled_cons (k m : ℕ) (hk : k < 80) (hm : m < 12) (X2 : arg2.view.ty.Contents (Elt F)) (f : arg8.view.ty.Contents (Elt F))
    (off off' : Fin 2 → ℕ) (hoff : off = ![16 * k, 128 * m]) (hoff' : off' = ![16 * k, 128 * m])
    (inb : ∀ a, off a + S16x128.size a ≤ S1408x1536.size a) (inb' : ∀ a, off' a + S16x128.size a ≤ S1280x1536.size a)
    (w : (Rect.unit (s := S1408x1536) off S16x128.size inb).shape.Idx → Elt F .bf16)
    (hw : w = k0_pay8 (arg2.view.readAt (Elt F) (Rect.unit (s := S1280x1536) off' S16x128.size inb').toLoadRect X2))
    (L : List (View.Piece (Elt F) S1408x1536 .bf16))
    (h : Filled k m (arg2.view.read (Elt F) X2) (arg8.view.read (Elt F) (arg8.view.writes (Elt F) f L)) (arg8.view.read (Elt F) f)) :
    Filled k (m + 1) (arg2.view.read (Elt F) X2)
      (arg8.view.read (Elt F) (arg8.view.writes (Elt F) f (⟨Rect.unit (s := S1408x1536) off S16x128.size inb, w⟩ :: L))) (arg8.view.read (Elt F) f) := by
  subst hoff hoff' hw
  intro y
  refine ⟨fun h0 h0' h1 => ?_, fun h0 => ?_⟩
  · by_cases h2 : (y 1).val < 128 * m
    · refine (View.read_writes_cons_unit_of_not_mem arg8.view f (off := ![16 * k, 128 * m]) (size := S16x128.size) inb _ L y rfl 1 ?_).trans ((h y).1 h0 h0' h2)
      exact Or.inl h2
    · have hx0 : (y 0).val - 16 * k < 16 := by omega
      have hx1 : (y 1).val - 128 * m < 128 := by omega
      refine (View.read_writes_cons_unit_of_mem arg8.view f (off := ![16 * k, 128 * m]) (size := S16x128.size) inb _ L y
        (ix2 ⟨(y 0).val - 16 * k, hx0⟩ ⟨(y 1).val - 128 * m, hx1⟩) rfl ?_).trans ?_
      · intro a
        match a with
        | ⟨0, _⟩ => show (y 0).val = 16 * k + ((y 0).val - 16 * k); omega
        | ⟨1, _⟩ => show (y 1).val = 128 * m + ((y 1).val - 128 * m); omega
      · unfold xpad
        rw [if_pos (by omega)]
        refine congr (congrArg k0_pay8 (funext fun j => ?_)) (funext fun a => ?_)
        · have hj0 : (j 0).val < 16 := (j 0).isLt
          have hj1 : (j 1).val < 128 := (j 1).isLt
          rw [View.readAt_apply]
          refine congrArg (arg2.view.read (Elt F) X2) (funext fun a => ?_)
          match a with
          | ⟨0, _⟩ => exact Fin.ext (by show 16 * k + 1 * (j 0).val = ((y 0).val / 16 * 16 + (j 0).val) % 1280; omega)
          | ⟨1, _⟩ => exact Fin.ext (by show 128 * m + 1 * (j 1).val = ((y 1).val / 128 * 128 + (j 1).val) % 1536; omega)
        · match a with
          | ⟨0, _⟩ => exact Fin.ext (by show (y 0).val - 16 * k = (y 0).val % 16; omega)
          | ⟨1, _⟩ => exact Fin.ext (by show (y 1).val - 128 * m = (y 1).val % 128; omega)
  · refine (View.read_writes_cons_unit_of_not_mem arg8.view f (off := ![16 * k, 128 * m]) (size := S16x128.size) inb _ L y rfl 0 ?_).trans ((h y).2 h0)
    exact Or.inl h0

/-- The loop runs 80 trips. -/
theorem trips_t1 : k0_t1_loop.trips = 80 := by decide +kernel

/-- The fill loop by its invariant: before trip `k` the first `16 * k` rows hold the permuted activations. -/
abbrev invFill (c : Dev nD) (X2 : arg2.view.ty.Contents (Elt F)) (k : ℕ) : sProp 𝕄G :=
  iprop((arg2.view.loc (c : Thread nD τ) ↦[arg2.view.set]{fullShare} X2)
    ∗ ∃ f, (arg8.view.loc (c : Thread nD τ) ↦[arg8.view.set]{fullShare} f)
      ∗ ⌜∀ y : S1408x1536.Idx, (y 0).val < 16 * k → arg8.view.read (Elt F) f y = xpad (arg2.view.read (Elt F) X2) y⌝)

set_option maxRecDepth 20000 in
set_option maxHeartbeats 4000000 in
set_option warn.classDefReducibility false in
/-- The loop that stores the permuted activations. -/
@[sl_loop] def loopFill (𝒱 : Variants) (c : Dev nD) (bd : Option 𝒱.V) (E : Set ℕ) (h1 : k0_cond1 i = 1#1) (X2 : arg2.view.ty.Contents (Elt F)) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 h1 where
  inv k _ := invFill arg2 arg8 c X2 k
  step k acc := by
    have hk : k.val < 80 := trips_t1 ▸ k.isLt
    iintro ⟨H2, ⟨%f, H8, %h⟩⟩
    unfold k0_t1_body
    sl_exec
    sl_step
    isplitl [H2]; · iexact H2
    iexists _
    isplitl [H8]; · iexact H8
    ipureintro
    have hF : Filled k.val 12 (arg2.view.read (Elt F) X2) (arg8.view.read (Elt F) (arg8.view.writes (Elt F) f _)) (arg8.view.read (Elt F) f) :=
      filled_cons arg2 arg8 k.val 11 hk (by decide) X2 f _ _ (k0_off24_eq k) (k0_off23_eq k) (k0_off24_inb i k h1) (k0_off23_inb i k h1) _ rfl _ <|
      filled_cons arg2 arg8 k.val 10 hk (by decide) X2 f _ _ (k0_off22_eq k) (k0_off21_eq k) (k0_off22_inb i k h1) (k0_off21_inb i k h1) _ rfl _ <|
      filled_cons arg2 arg8 k.val 9 hk (by decide) X2 f _ _ (k0_off20_eq k) (k0_off19_eq k) (k0_off20_inb i k h1) (k0_off19_inb i k h1) _ rfl _ <|
      filled_cons arg2 arg8 k.val 8 hk (by decide) X2 f _ _ (k0_off18_eq k) (k0_off17_eq k) (k0_off18_inb i k h1) (k0_off17_inb i k h1) _ rfl _ <|
      filled_cons arg2 arg8 k.val 7 hk (by decide) X2 f _ _ (k0_off16_eq k) (k0_off15_eq k) (k0_off16_inb i k h1) (k0_off15_inb i k h1) _ rfl _ <|
      filled_cons arg2 arg8 k.val 6 hk (by decide) X2 f _ _ (k0_off14_eq k) (k0_off13_eq k) (k0_off14_inb i k h1) (k0_off13_inb i k h1) _ rfl _ <|
      filled_cons arg2 arg8 k.val 5 hk (by decide) X2 f _ _ (k0_off12_eq k) (k0_off11_eq k) (k0_off12_inb i k h1) (k0_off11_inb i k h1) _ rfl _ <|
      filled_cons arg2 arg8 k.val 4 hk (by decide) X2 f _ _ (k0_off10_eq k) (k0_off9_eq k) (k0_off10_inb i k h1) (k0_off9_inb i k h1) _ rfl _ <|
      filled_cons arg2 arg8 k.val 3 hk (by decide) X2 f _ _ (k0_off8_eq k) (k0_off7_eq k) (k0_off8_inb i k h1) (k0_off7_inb i k h1) _ rfl _ <|
      filled_cons arg2 arg8 k.val 2 hk (by decide) X2 f _ _ (k0_off6_eq k) (k0_off5_eq k) (k0_off6_inb i k h1) (k0_off5_inb i k h1) _ rfl _ <|
      filled_cons arg2 arg8 k.val 1 hk (by decide) X2 f _ _ (k0_off4_eq k) (k0_off3_eq k) (k0_off4_inb i k h1) (k0_off3_inb i k h1) _ rfl _ <|
      filled_cons arg2 arg8 k.val 0 hk (by decide) X2 f _ _ (k0_off2_eq k) (k0_off1_eq k) (k0_off2_inb i k h1) (k0_off1_inb i k h1) _ rfl _ <|
      filled_nil arg8 k.val _ f
    intro y hy
    by_cases hy0 : (y 0).val < 16 * k.val
    · exact ((hF y).2 hy0).trans (h y hy0)
    · exact (hF y).1 (by omega) (by omega) (y 1).isLt

end Cert.Proof

end
-- ==== Proof.Dequant.lean ====
/- The dequantisation of one tenant: the 96 stores of 16 rows each leave `dequant` in the weight buffer. -/
module

public import proofs.«01_k».proof.Proof.Gen.KernelIdeal.Loops
public import proofs.«01_k».proof.Proof.Spec
public import Idealize.ShloMosaic.Lib.VecWindow
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (i : grid0.Coords) (arg1 : Memref sig .tc .smem S8 .i32) (harg1 : arg1.IsWhole) (arg2 : Memref sig .tc .vmem S1280x1536 .bf16) (harg2 : arg2.IsWhole) (arg3 : Memref sig .tc .vmem S1536x512 .fp8e4m3) (harg3 : arg3.IsWhole) (arg4 : Memref sig .tc .vmem S1x512 .f32) (harg4 : arg4.IsWhole) (arg5 : Memref sig .tc .vmem S7x384x512 .i16) (harg5 : arg5.IsWhole) (arg6 : Memref sig .tc .vmem S7x12x512 .bf16) (harg6 : arg6.IsWhole) (arg7 : Memref sig .tc .vmem S1280x512 .bf16) (harg7 : arg7.IsWhole) (arg8 : Memref sig .tc .vmem S1408x1536 .bf16) (harg8 : arg8.IsWhole) (arg9 : Memref sig .tc .vmem S1536x512 .bf16) (harg9 : arg9.IsWhole) (arg10 : Memref sig .tc .vmem S1408x512 .f32) (harg10 : arg10.IsWhole)

/-- The tenant's number as the kernel computes it from the trip. -/
def tenantIx (t2 : Fin k0_t2_loop.trips) : ℕ :=
  (Scalar.indexCast (Scalar.addi 0#32 (Scalar.muli (Scf.iv 0#32 1#32 t2) 1#32))).toNat

/-- There are seven trips. -/
theorem trips_t2 : k0_t2_loop.trips = 7 := by decide

/-- The tenant's number is the trip's. -/
theorem tenantIx_eq (t2 : Fin k0_t2_loop.trips) : tenantIx t2 = t2.val := by
  have h : t2.val < 7 := lt_of_lt_of_eq t2.isLt trips_t2
  obtain ⟨v, hv⟩ := t2
  simp only at h
  interval_cases v <;> rfl

/-- The trip as a tenant. -/
def tenantOf (t2 : Fin k0_t2_loop.trips) : Fin 7 := t2.cast trips_t2

/-- `dequant` in the 16 rows that start at row `o`. -/
theorem dequant_apply (pk : Vec F S7x384x512 .i16) (sc : FVec F S7x12x512 .bf16) (g : Fin 7) (o : ℕ) (ho : o % 16 = 0) (y : S1536x512.Idx)
    (x : S16x512.Idx) (h0 : (y 0).val = o + (x 0).val) (h1 : (y 1).val = (x 1).val) :
    dequant pk sc g y = tile (o / 16 % 4) (packedRows pk g (o / 64)) (scaleRow sc g (o / 128)) x := by
  have hx0 : (x 0).val < 16 := (x 0).isLt
  have hx : ix2 (Fin.ofNat 16 (y 0).val) (y 1) = x := by
    funext d
    match d with
    | ⟨0, _⟩ => exact Fin.ext (by show (y 0).val % 16 = (x 0).val; omega)
    | ⟨1, _⟩ => exact Fin.ext h1
  unfold dequant
  rw [show (y 0).val / 16 % 4 = o / 16 % 4 by omega, show (y 0).val / 64 = o / 64 by omega, show (y 0).val / 128 = o / 128 by omega]
  exact congrArg _ hx

/-- Sixteen rows at a multiple of 16 lie in the weight buffer. -/
theorem rows_inb (o : ℕ) (ho : o % 16 = 0) (h : o < 1536) : ∀ a, (![o, 0] : Fin 2 → ℕ) a + S16x512.size a ≤ S1536x512.size a := by
  intro a
  match a with
  | ⟨0, _⟩ => show o + 16 ≤ 1536; omega
  | ⟨1, _⟩ => show 0 + 512 ≤ 512; omega

/-- The packed rows that belong to row `o` lie in the packed block. -/
theorem packed_inb (t2 : Fin k0_t2_loop.trips) (o : ℕ) (h : o < 1536) :
    ∀ a, (![tenantIx t2, o / 64 * 16, 0] : Fin 3 → ℕ) a + S1x16x512.size a ≤ S7x384x512.size a := by
  have h1 := tenantIx_eq t2
  have h2 : t2.val < 7 := trips_t2 ▸ t2.isLt
  intro a
  match a with
  | ⟨0, _⟩ => show tenantIx t2 + 1 ≤ 7; omega
  | ⟨1, _⟩ => show o / 64 * 16 + 16 ≤ 384; omega
  | ⟨2, _⟩ => show 0 + 512 ≤ 512; omega

/-- The scale row that belongs to row `o` lies in the block of scales. -/
theorem scale_inb (t2 : Fin k0_t2_loop.trips) (o : ℕ) (h : o < 1536) :
    ∀ a, (![tenantIx t2, o / 128, 0] : Fin 3 → ℕ) a + S1x1x512.size a ≤ S7x12x512.size a := by
  have h1 := tenantIx_eq t2
  have h2 : t2.val < 7 := trips_t2 ▸ t2.isLt
  intro a
  match a with
  | ⟨0, _⟩ => show tenantIx t2 + 1 ≤ 7; omega
  | ⟨1, _⟩ => show o / 128 + 1 ≤ 12; omega
  | ⟨2, _⟩ => show 0 + 512 ≤ 512; omega

/-- One store of the dequantisation: 16 rows at `o` hold `dequant` there. -/
theorem tile_at (t2 : Fin k0_t2_loop.trips) (X5 : arg5.view.ty.Contents (Elt F)) (X6 : arg6.view.ty.Contents (Elt F)) (o : ℕ)    (ho : o % 16 = 0) (hlt : o < 1536) (x : (Rect.unit (s := S1536x512) ![o, 0] S16x512.size (rows_inb o ho hlt)).shape.Idx) :
    shapeCast S16x512 (tile (o / 16 % 4)
        (arg5.view.readAt (Elt F) (Rect.unit (s := S7x384x512) ![tenantIx t2, o / 64 * 16, 0] S1x16x512.size (packed_inb t2 o hlt)).toLoadRect X5)
        (arg6.view.readAt (Elt F) (Rect.unit (s := S7x12x512) ![tenantIx t2, o / 128, 0] S1x1x512.size (scale_inb t2 o hlt)).toLoadRect X6)) shapeCasts_S16x512_S16x512 x
      = dequant (arg5.view.read (Elt F) X5) (arg6.view.read (Elt F) X6) (tenantOf t2) ((Rect.unit (s := S1536x512) ![o, 0] S16x512.size (rows_inb o ho hlt)).emb x) := by
  have ho' : o + 16 ≤ 1536 := rows_inb o ho hlt 0
  rw [shapeCast_self]
  rw [dequant_apply _ _ _ o ho ((Rect.unit (s := S1536x512) ![o, 0] S16x512.size (rows_inb o ho hlt)).emb x) x
    (by show o + 1 * (x 0).val = _; omega) (by show 0 + 1 * (x 1).val = _; omega)]
  congr 1
  · funext j
    rw [View.readAt_apply]
    refine congrArg (arg5.view.read (Elt F) X5) (funext fun a => ?_)
    have hj : (j 1).val < 16 := (j 1).isLt
    match a with
    | ⟨0, _⟩ => exact Fin.ext (by show tenantIx t2 + 1 * (j 0).val = t2.val; have := tenantIx_eq t2; have : (j 0).val < 1 := (j 0).isLt; omega)
    | ⟨1, _⟩ => exact Fin.ext (by show o / 64 * 16 + 1 * (j 1).val = (16 * (o / 64) + (j 1).val) % 384; omega)
    | ⟨2, _⟩ => exact Fin.ext (by show 0 + 1 * (j 2).val = (j 2).val; omega)
  · funext j
    rw [View.readAt_apply]
    refine congrArg (arg6.view.read (Elt F) X6) (funext fun a => ?_)
    match a with
    | ⟨0, _⟩ => exact Fin.ext (by show tenantIx t2 + 1 * (j 0).val = t2.val; have := tenantIx_eq t2; have : (j 0).val < 1 := (j 0).isLt; omega)
    | ⟨1, _⟩ => exact Fin.ext (by show o / 128 + 1 * (j 1).val = (o / 128) % 12; have : (j 1).val < 1 := (j 1).isLt; omega)
    | ⟨2, _⟩ => exact Fin.ext (by show 0 + 1 * (j 2).val = (j 2).val; omega)

/-- Stores that together with one at row 1520 tile the buffer cover every row before 1520. -/
theorem cover_before (L : List (View.Piece (Elt F) S1536x512 .bf16)) (v : FVec F S16x512 .bf16)
    (h : View.Piece.tiled ((⟨Rect.unit (s := S1536x512) ![1520, 0] S16x512.size inb_S1536x512_S16x512_1520_0, v⟩ : View.Piece (Elt F) S1536x512 .bf16) :: L)
      S16x512.size = true) (y : S1536x512.Idx) (hy : (y 0).val < 1520) : ∃ p ∈ L, y ∈ p.1.set := by
  obtain ⟨p, hp, hm⟩ := View.cover_of_tiled _ _ h y
  rcases List.mem_cons.mp hp with rfl | hp
  · obtain ⟨x, rfl⟩ := (Rect.unit (s := S1536x512) ![1520, 0] S16x512.size inb_S1536x512_S16x512_1520_0).exists_idx_of_mem hm
    have : 1520 + 1 * (x 0).val < 1520 := hy
    omega
  · exact ⟨p, hp, hm⟩

include harg9 in
set_option maxRecDepth 20000 in
set_option maxHeartbeats 4000000 in
/-- One tenant's dequantisation up to its last store: every row before the last 16 holds `dequant`, and so does the vector
    that the last store writes. -/
theorem dequant_run (c : Dev nD) (t2 : Fin k0_t2_loop.trips) (v20 : BitVec 32) (X5 : arg5.view.ty.Contents (Elt F)) (X6 : arg6.view.ty.Contents (Elt F))
    (f9 : arg9.view.ty.Contents (Elt F)) (𝒱 : Variants) (bd : Option 𝒱.V) (E : Set ℕ) (Φ : FVec F S16x512 .bf16 → sProp 𝕄G) :
    iprop((arg5.view.loc (c : Thread nD τ) ↦[arg5.view.set]{fullShare} X5) ∗ (arg6.view.loc (c : Thread nD τ) ↦[arg6.view.set]{fullShare} X6)
        ∗ (arg9.view.loc (c : Thread nD τ) ↦[arg9.view.set]{fullShare} f9)
        ∗ (∀ v f, ((arg5.view.loc (c : Thread nD τ) ↦[arg5.view.set]{fullShare} X5) ∗ (arg6.view.loc (c : Thread nD τ) ↦[arg6.view.set]{fullShare} X6)
            ∗ (arg9.view.loc (c : Thread nD τ) ↦[arg9.view.set]{fullShare} f)
            ∗ ⌜(∀ y : S1536x512.Idx, (y 0).val < 1520 → arg9.view.read (Elt F) f y = dequant (arg5.view.read (Elt F) X5) (arg6.view.read (Elt F) X6) (tenantOf t2) y)
              ∧ ∀ x, k0_pay4 v x = dequant (arg5.view.read (Elt F) X5) (arg6.view.read (Elt F) X6) (tenantOf t2)
                  ((Rect.unit (s := S1536x512) ![1520, 0] S16x512.size inb_S1536x512_S16x512_1520_0).emb x)⌝) -∗ Φ v))
      ⊢ wp frame (wpE (defs₀ (F := F)) 𝒱 (c : Thread nD τ) bd) E
          (k0_part47 i arg1 harg1 arg2 harg2 arg3 harg3 arg4 harg4 arg5 harg5 arg6 harg6 arg7 harg7 arg8 harg8 arg9 harg9 arg10 harg10 t2 v20) Φ := by
  iintro ⟨H5, H6, H9, K⟩
  sl_exec
  sl_step
  iapply K
  iframe
  ipureintro
  refine ⟨fun y hy => ?_, fun x => ?_⟩
  · refine View.read_writes_apply_of_pieces (Val := Elt F) arg9.view _ (dequant (arg5.view.read (Elt F) X5) (arg6.view.read (Elt F) X6) (tenantOf t2)) _ ?_ y ?_
    · repeat' (refine List.forall_mem_cons.mpr ⟨fun x => Eq.trans ?_ (tile_at arg5 arg6 t2 X5 X6 _ rfl (by decide) x), ?_⟩; · rfl)
      exact fun p hp => absurd hp List.not_mem_nil
    · exact cover_before _ zeros rfl y hy
  · refine Eq.trans ?_ (tile_at arg5 arg6 t2 X5 X6 1520 rfl (by decide) x)
    rfl

end Cert.Proof

end
-- ==== Proof.Words.lean ====
/- The 32-bit words a tenant's chunks are computed from, for offsets between 0 and 1280: the first row of each chunk, the number
   of chunks, and the side conditions of the accesses. -/
module

public import proofs.«01_k».proof.Proof.Spec
public import Idealize.ShloMosaic.Lib.Affine

@[expose] public section

noncomputable section

namespace Cert.Proof

open Cert.KernelIdeal Cert.KernelIdeal.Gen
open Idealize.ShloMosaic Idealize.ShloMosaic.TcCoe

variable {lo hi : BitVec 32}

/-- A word up to 1280 read as an integer. -/
theorem isInt_of_le (h : lo.toNat ≤ 1280) : Affine.IsInt lo (lo.toNat : ℤ) := by
  have := Affine.word lo
  rwa [BitVec.toInt_eq_toNat_of_msb (BitVec.msb_eq_false_iff_two_mul_lt.mpr (by omega))] at this

/-- The tenant's first row rounded down to a multiple of 16. -/
theorem isInt_base (h : lo.toNat ≤ 1280) : Affine.IsInt (Scalar.shli (Scalar.shrsi lo 4#32) 4#32) ((lo.toNat / 16 * 16 : ℕ) : ℤ) := by
  have h1 : Affine.IsInt (Scalar.shrsi lo 4#32) ((lo.toNat / 16 : ℕ) : ℤ) :=
    Affine.shrsi (isInt_of_le h) (Affine.ofNat 4 (by omega) : Affine.IsInt 4#32 4) 4 16 rfl (by omega)
  have h2 : (Scalar.shrsi lo 4#32).toNat = lo.toNat / 16 := by
    have := Affine.toNat_of h1 (by omega); omega
  have h3 : (Scalar.shli (Scalar.shrsi lo 4#32) 4#32).toNat = lo.toNat / 16 * 16 := by
    rw [Scalar.shli, IntOp.shli, if_pos (by decide), BitVec.shiftLeft_eq', BitVec.toNat_shiftLeft, h2, Nat.shiftLeft_eq]
    show lo.toNat / 16 * 16 % 4294967296 = _
    omega
  rw [← h3]
  exact isInt_of_le (by omega)

/-- A tenant has rows exactly when its first offset is below its second. -/
theorem cond2_iff (hl : lo.toNat ≤ 1280) (hh : hi.toNat ≤ 1280) : k0_cond2 lo hi = 1#1 ↔ lo.toNat < hi.toNat := by
  unfold k0_cond2
  by_cases h : lo.toNat < hi.toNat
  · refine iff_of_true ?_ h
    exact Affine.ne_holds (Affine.extui_holds (Affine.sgt_holds (isInt_of_le hh) (isInt_of_le hl) (by omega)) rfl) (Affine.ofNat 0 (by omega) : Affine.IsInt 0#32 0)
      (by omega)
  · refine iff_of_false ?_ h
    exact Affine.ne_fails (Affine.extui_fails (Affine.sgt_fails (isInt_of_le hh) (isInt_of_le hl) (by omega)) rfl) (Affine.ofNat 0 (by omega) : Affine.IsInt 0#32 0)
      rfl

/-- The number of chunks of a tenant: its rows from the first row rounded down, 128 at a time. -/
def nChunks (lo hi : BitVec 32) : ℕ := (hi.toNat - lo.toNat / 16 * 16 + 127) / 128

/-- The word that bounds the chunks. -/
theorem isInt_bound (hl : lo.toNat ≤ 1280) (hh : hi.toNat ≤ 1280) (h : lo.toNat < hi.toNat) :
    Affine.IsInt (k0_t3_loop lo hi).ub (nChunks lo hi : ℤ) ∧ Affine.IsInt (k0_t4_loop lo hi).ub (nChunks lo hi : ℤ) := by
  have c1 : Affine.IsInt 1#32 1 := Affine.ofNat 1 (by omega)
  have c0 : Affine.IsInt 0#32 0 := Affine.ofNat 0 (by omega)
  have hn : nChunks lo hi = (hi.toNat - lo.toNat / 16 * 16 + 127) / 128 := rfl
  have h1567 := Affine.subi (isInt_of_le hh) (isInt_base hl) (e := ((hi.toNat - lo.toNat / 16 * 16 : ℕ) : ℤ)) (by omega)
  have h1568 := Affine.addi h1567 (Affine.ofNat 128 (by omega) : Affine.IsInt 128#32 128) (e := ((hi.toNat - lo.toNat / 16 * 16 + 128 : ℕ) : ℤ)) (by omega)
  have h1569 := Affine.subi h1568 c1 (e := ((hi.toNat - lo.toNat / 16 * 16 + 127 : ℕ) : ℤ)) (by omega)
  have h1570 := Affine.shrsi h1569 (Affine.ofNat 7 (by omega) : Affine.IsInt 7#32 7) 7 128 rfl (e := (nChunks lo hi : ℤ)) (by omega)
  have h1571 := Affine.subi h1570 c0 (e := (nChunks lo hi : ℤ)) (by omega)
  have h1572 := Affine.subi c1 c1 (e := 0) (by omega)
  have h1573 := Affine.addi h1571 h1572 (e := (nChunks lo hi : ℤ)) (by omega)
  have h1574 := Affine.divsi_one h1573 c1 (e := (nChunks lo hi : ℤ)) (by omega)
  have h1575 := Affine.subi h1574 c0 (e := (nChunks lo hi : ℤ)) (by omega)
  have h1577 := Affine.divsi_one h1575 c1 (e := (nChunks lo hi : ℤ)) (by omega)
  have h1578 := Affine.muli h1577 c1 (e := (nChunks lo hi : ℤ)) (by omega)
  exact ⟨Affine.addi c0 h1578 (by omega), Affine.addi c0 h1575 (by omega)⟩

/-- The first loop over a tenant's chunks runs once for each chunk. -/
theorem trips_t3 (hl : lo.toNat ≤ 1280) (hh : hi.toNat ≤ 1280) (h : lo.toNat < hi.toNat) : (k0_t3_loop lo hi).trips = nChunks lo hi :=
  Affine.trips_eq (Affine.ofNat 0 (by omega) : Affine.IsInt 0#32 0) (isInt_bound hl hh h).1 (Affine.ofNat 1 (by omega) : Affine.IsInt 1#32 1) _ (by omega)

/-- The second loop over a tenant's chunks does not run. -/
theorem trips_t4 (hl : lo.toNat ≤ 1280) (hh : hi.toNat ≤ 1280) (h : lo.toNat < hi.toNat) : (k0_t4_loop lo hi).trips = 0 :=
  Affine.trips_eq (isInt_bound hl hh h).1 (isInt_bound hl hh h).2 (Affine.ofNat 1 (by omega) : Affine.IsInt 1#32 1) _ (by omega)

/-- The first row of chunk `k`. -/
theorem isInt_chunk (hl : lo.toNat ≤ 1280) (k : ℕ) (hk : k ≤ 100) : Affine.IsInt (chunkWord lo k) ((lo.toNat / 16 * 16 + 128 * k : ℕ) : ℤ) := by
  have c0 : Affine.IsInt 0#32 0 := Affine.ofNat 0 (by omega)
  have c1 : Affine.IsInt 1#32 1 := Affine.ofNat 1 (by omega)
  have h1 := Affine.iv c0 c1 k (e := (k : ℤ)) (by omega)
  have h2 := Affine.muli h1 c1 (e := (k : ℤ)) (by omega)
  have h3 := Affine.addi c0 h2 (e := (k : ℤ)) (by omega)
  have h4 := Affine.muli h3 (Affine.ofNat 128 (by omega) : Affine.IsInt 128#32 128) (e := ((128 * k : ℕ) : ℤ)) (by omega)
  exact Affine.addi (isInt_base hl) h4 (by omega)

/-- The first row of chunk `k`, as a number. -/
theorem chunkWord_toNat (hl : lo.toNat ≤ 1280) (k : ℕ) (hk : k ≤ 100) : (chunkWord lo k).toNat = lo.toNat / 16 * 16 + 128 * k := by
  have := Affine.toNat_of (isInt_chunk hl k hk) (by omega)
  omega

/-- The side conditions of one tenant's accesses hold. -/
theorem chk1 (hl : lo.toNat ≤ 1280) (hh : hi.toNat ≤ 1280) : k0_chk1 lo hi := by
  have c1 : Affine.IsInt 1#32 1 := Affine.ofNat 1 (by omega)
  have key : ∀ k : Fin (k0_t3_loop lo hi).trips, k0_cond2 lo hi = 1#1 →
      (chunkWord lo k).toNat = lo.toNat / 16 * 16 + 128 * k.val ∧ lo.toNat / 16 * 16 + 128 * k.val + 128 ≤ 1408 := by
    intro k hc
    have hlt := (cond2_iff hl hh).mp hc
    have hk : k.val < nChunks lo hi := trips_t3 hl hh hlt ▸ k.isLt
    have hn : nChunks lo hi = (hi.toNat - lo.toNat / 16 * 16 + 127) / 128 := rfl
    exact ⟨chunkWord_toNat hl _ (by omega), by omega⟩
  have none4 : ∀ k : Fin (k0_t4_loop lo hi).trips, k0_cond2 lo hi = 1#1 → False := by
    intro k hc
    have := trips_t4 hl hh ((cond2_iff hl hh).mp hc)
    exact absurd k.isLt (by omega)
  refine ⟨fun hc => ?_, fun k hc => ?_, fun k hc a => ?_, fun k hc a => ?_, fun hc => ?_, fun k hc => (none4 k hc).elim,
    fun k hc => (none4 k hc).elim, fun k hc => (none4 k hc).elim⟩
  · have hn : nChunks lo hi = (hi.toNat - lo.toNat / 16 * 16 + 127) / 128 := rfl
    exact Affine.ok (Affine.ofNat 0 (by omega) : Affine.IsInt 0#32 0) (isInt_bound hl hh ((cond2_iff hl hh).mp hc)).1 c1 (by omega)
  · show 16 ∣ (chunkWord lo k).toNat
    rw [(key k hc).1]; omega
  · obtain ⟨h1, h2⟩ := key k hc
    match a with
    | ⟨0, _⟩ => show (chunkWord lo k).toNat + 128 ≤ 1408; omega
    | ⟨1, _⟩ => show 0 + 1536 ≤ 1536; omega
  · obtain ⟨h1, h2⟩ := key k hc
    match a with
    | ⟨0, _⟩ => show (chunkWord lo k).toNat + 128 ≤ 1408; omega
    | ⟨1, _⟩ => show 0 + 512 ≤ 512; omega
  · have hn : nChunks lo hi = (hi.toNat - lo.toNat / 16 * 16 + 127) / 128 := rfl
    have hlt := (cond2_iff hl hh).mp hc
    exact Affine.ok (isInt_bound hl hh hlt).1 (isInt_bound hl hh hlt).2 c1 (by omega)

end Cert.Proof

end
-- ==== Proof.Chunks.lean ====
/- The chunks of one tenant: the loop adds, chunk by chunk, to 128 rows of the accumulator. -/
module

public import proofs.«01_k».proof.Proof.Gen.KernelIdeal.Loops
public import proofs.«01_k».proof.Proof.Words
public import Idealize.ShloMosaic.Lib.WritesUnit
public import Idealize.ShloMosaic.Lib.VecWindow
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (i : grid0.Coords) (arg1 : Memref sig .tc .smem S8 .i32) (harg1 : arg1.IsWhole) (arg2 : Memref sig .tc .vmem S1280x1536 .bf16) (harg2 : arg2.IsWhole) (arg3 : Memref sig .tc .vmem S1536x512 .fp8e4m3) (harg3 : arg3.IsWhole) (arg4 : Memref sig .tc .vmem S1x512 .f32) (harg4 : arg4.IsWhole) (arg5 : Memref sig .tc .vmem S7x384x512 .i16) (harg5 : arg5.IsWhole) (arg6 : Memref sig .tc .vmem S7x12x512 .bf16) (harg6 : arg6.IsWhole) (arg7 : Memref sig .tc .vmem S1280x512 .bf16) (harg7 : arg7.IsWhole) (arg8 : Memref sig .tc .vmem S1408x1536 .bf16) (harg8 : arg8.IsWhole) (arg9 : Memref sig .tc .vmem S1536x512 .bf16) (harg9 : arg9.IsWhole) (arg10 : Memref sig .tc .vmem S1408x512 .f32) (harg10 : arg10.IsWhole)

/-- One chunk's store leaves `chunkStep` of what the accumulator held. -/
theorem chunk_store (lo hi : Elt F .i32) (h1 : k0_chk1 lo hi) (h2 : k0_cond2 lo hi = 1#1) (k : Fin (k0_t3_loop lo hi).trips)
    (X8 : arg8.view.ty.Contents (Elt F)) (X9 : arg9.view.ty.Contents (Elt F)) (f : arg10.view.ty.Contents (Elt F)) :
    arg10.view.read (Elt F) (arg10.view.writes (Elt F) f
        [⟨Rect.unit (s := S1408x512) (k0_off64 lo hi k) S128x512.size (k0_off64_inb lo hi h1 k h2),
          k0_pay5 lo hi k
            (arg8.view.readAt (Elt F) (Rect.unit (s := S1408x1536) (k0_off63 lo hi k) S128x1536.size (k0_off63_inb lo hi h1 k h2)).toLoadRect X8)
            (arg9.view.readAt (Elt F) (Rect.unit (s := S1536x512) ![0, 0] S1536x512.size inb_S1536x512_S1536x512_0_0).toLoadRect X9)
            (arg10.view.readAt (Elt F) (Rect.unit (s := S1408x512) (k0_off64 lo hi k) S128x512.size (k0_off64_inb lo hi h1 k h2)).toLoadRect f)⟩])
      = chunkStep (arg8.view.read (Elt F) X8) (arg9.view.read (Elt F) X9) lo hi k.val (arg10.view.read (Elt F) f) := by
  have hrow : (chunkWord lo k.val).toNat + 128 ≤ 1408 := k0_off64_inb lo hi h1 k h2 0
  have hrows : arg8.view.readAt (Elt F) (Rect.unit (s := S1408x1536) (k0_off63 lo hi k) S128x1536.size (k0_off63_inb lo hi h1 k h2)).toLoadRect X8
      = rowsFrom (arg8.view.read (Elt F) X8) (chunkWord lo k.val).toNat := by
    funext j
    have hj : (j 0).val < 128 := (j 0).isLt
    rw [View.readAt_apply]
    refine congrArg (arg8.view.read (Elt F) X8) (funext fun a => ?_)
    match a with
    | ⟨0, _⟩ => exact Fin.ext (by show (chunkWord lo k.val).toNat + 1 * (j 0).val = ((chunkWord lo k.val).toNat + (j 0).val) % 1408; omega)
    | ⟨1, _⟩ => exact Fin.ext (by show 0 + 1 * (j 1).val = (j 1).val; omega)
  have hall : arg9.view.readAt (Elt F) (Rect.unit (s := S1536x512) ![0, 0] S1536x512.size inb_S1536x512_S1536x512_0_0).toLoadRect X9 = arg9.view.read (Elt F) X9 := by
    funext j
    rw [View.readAt_apply]
    refine congrArg (arg9.view.read (Elt F) X9) (funext fun a => ?_)
    match a with
    | ⟨0, _⟩ => exact Fin.ext (by show 0 + 1 * (j 0).val = (j 0).val; omega)
    | ⟨1, _⟩ => exact Fin.ext (by show 0 + 1 * (j 1).val = (j 1).val; omega)
  rw [hrows, hall]
  funext y
  unfold chunkStep
  by_cases h : (chunkWord lo k.val).toNat ≤ (y 0).val ∧ (y 0).val < (chunkWord lo k.val).toNat + 128
  · rw [if_pos h]
    have hx0 : (y 0).val - (chunkWord lo k.val).toNat < 128 := by omega
    refine (View.read_writes_cons_rows_of_mem (o := (chunkWord lo k.val).toNat) arg10.view f (off := k0_off64 lo hi k) (size := S128x512.size) _ _ _ y
      (ix2 ⟨(y 0).val - (chunkWord lo k.val).toNat, hx0⟩ (y 1)) rfl (by show _ = _ + ((y 0).val - (chunkWord lo k.val).toNat); omega) rfl).trans ?_
    show shapeCast S128x512 (addf _ (chunkAdd lo hi k.val _ _)) shapeCasts_S128x512_S128x512 _ = _
    rw [shapeCast_self]
    refine congrArg₂ FloatOps.addf ?_ ?_
    · rw [View.readAt_apply]
      refine congrArg (arg10.view.read (Elt F) f) (funext fun a => ?_)
      match a with
      | ⟨0, _⟩ => exact Fin.ext (by show (chunkWord lo k.val).toNat + 1 * ((y 0).val - (chunkWord lo k.val).toNat) = (y 0).val; omega)
      | ⟨1, _⟩ => exact Fin.ext (by show 0 + 1 * (y 1).val = (y 1).val; omega)
    · refine congrArg _ (funext fun a => ?_)
      match a with
      | ⟨0, _⟩ => exact Fin.ext (by show (y 0).val - (chunkWord lo k.val).toNat = ((y 0).val - (chunkWord lo k.val).toNat) % 128; omega)
      | ⟨1, _⟩ => rfl
  · rw [if_neg h]
    exact View.read_writes_cons_rows_of_not_mem (o := (chunkWord lo k.val).toNat) (W := 128) arg10.view f (off := k0_off64 lo hi k) (size := S128x512.size) _ _ _ y rfl rfl
      (by omega)

/-- The chunks loop by its invariant: before chunk `k` the accumulator holds what the chunks before it leave. -/
abbrev invChunks (c : Dev nD) (lo hi : Elt F .i32) (X8 : arg8.view.ty.Contents (Elt F)) (X9 : arg9.view.ty.Contents (Elt F)) (G : FVec F S1408x512 .f32)
    (k : ℕ) : sProp 𝕄G :=
  iprop((arg8.view.loc (c : Thread nD τ) ↦[arg8.view.set]{fullShare} X8) ∗ (arg9.view.loc (c : Thread nD τ) ↦[arg9.view.set]{fullShare} X9)
    ∗ ∃ f, (arg10.view.loc (c : Thread nD τ) ↦[arg10.view.set]{fullShare} f) ∗ ⌜arg10.view.read (Elt F) f = chunks (arg8.view.read (Elt F) X8) (arg9.view.read (Elt F) X9) lo hi G k⌝)

set_option warn.classDefReducibility false in
/-- The loop over the chunks. -/
@[sl_loop] def loopChunks (𝒱 : Variants) (c : Dev nD) (bd : Option 𝒱.V) (E : Set ℕ) (lo hi : Elt F .i32) (h1 : k0_chk1 lo hi) (h2 : k0_cond2 lo hi = 1#1)
    (X8 : arg8.view.ty.Contents (Elt F)) (X9 : arg9.view.ty.Contents (Elt F)) (G : FVec F S1408x512 .f32) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 lo hi h1 h2 where
  inv k _ := invChunks arg8 arg9 arg10 c lo hi X8 X9 G k
  step k acc := by
    iintro ⟨H8, H9, ⟨%f, H10, %h⟩⟩
    unfold k0_t3_body
    sl_exec
    sl_step
    isplitl [H8]; · iexact H8
    isplitl [H9]; · iexact H9
    iexists _
    isplitl [H10]; · iexact H10
    ipureintro
    rw [chunk_store arg8 arg9 arg10 lo hi h1 h2 k X8 X9 f, h]
    rfl

end Cert.Proof

end
-- ==== Proof.Tenants.lean ====
/- The loop over the tenants: each tenant that has rows is dequantised and its chunks are added to the accumulator. -/
module

public import proofs.«01_k».proof.Proof.Dequant
public import proofs.«01_k».proof.Proof.Chunks

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (i : grid0.Coords) (arg1 : Memref sig .tc .smem S8 .i32) (harg1 : arg1.IsWhole) (arg2 : Memref sig .tc .vmem S1280x1536 .bf16) (harg2 : arg2.IsWhole) (arg3 : Memref sig .tc .vmem S1536x512 .fp8e4m3) (harg3 : arg3.IsWhole) (arg4 : Memref sig .tc .vmem S1x512 .f32) (harg4 : arg4.IsWhole) (arg5 : Memref sig .tc .vmem S7x384x512 .i16) (harg5 : arg5.IsWhole) (arg6 : Memref sig .tc .vmem S7x12x512 .bf16) (harg6 : arg6.IsWhole) (arg7 : Memref sig .tc .vmem S1280x512 .bf16) (harg7 : arg7.IsWhole) (arg8 : Memref sig .tc .vmem S1408x1536 .bf16) (harg8 : arg8.IsWhole) (arg9 : Memref sig .tc .vmem S1536x512 .bf16) (harg9 : arg9.IsWhole) (arg10 : Memref sig .tc .vmem S1408x512 .f32) (harg10 : arg10.IsWhole)

/-- One chunk changes each place of the accumulator from what that place held. -/
theorem chunkStep_congr (xp : FVec F S1408x1536 .bf16) (dw : FVec F S1536x512 .bf16) (lo hi : BitVec 32) (k : ℕ) (a b : FVec F S1408x512 .f32)
    (y : S1408x512.Idx) (h : a y = b y) : chunkStep xp dw lo hi k a y = chunkStep xp dw lo hi k b y := by
  unfold chunkStep
  rw [h]

/-- So do the chunks of one tenant. -/
theorem chunks_congr (xp : FVec F S1408x1536 .bf16) (dw : FVec F S1536x512 .bf16) (lo hi : BitVec 32) (a b : FVec F S1408x512 .f32)
    (y : S1408x512.Idx) (h : a y = b y) (k : ℕ) : chunks xp dw lo hi a k y = chunks xp dw lo hi b k y := by
  induction k with
  | zero => exact h
  | succ k ih => exact chunkStep_congr xp dw lo hi k _ _ y ih

/-- The number of the tenant after, as the kernel computes it from the trip. -/
def nextIx (t2 : Fin k0_t2_loop.trips) : ℕ :=
  (Scalar.indexCast (Scalar.addi (Scalar.addi 0#32 (Scalar.muli (Scf.iv 0#32 1#32 t2) 1#32)) 1#32)).toNat

/-- It is the trip's number plus one. -/
theorem nextIx_eq (t2 : Fin k0_t2_loop.trips) : nextIx t2 = t2.val + 1 := by
  have h : t2.val < 7 := lt_of_lt_of_eq t2.isLt trips_t2
  have c0 : Affine.IsInt 0#32 0 := Affine.ofNat 0 (by omega)
  have c1 : Affine.IsInt 1#32 1 := Affine.ofNat 1 (by omega)
  have h1 := Affine.iv c0 c1 t2.val (e := (t2.val : ℤ)) (by omega)
  have h2 := Affine.muli h1 c1 (e := (t2.val : ℤ)) (by omega)
  have h3 := Affine.addi c0 h2 (e := (t2.val : ℤ)) (by omega)
  have h4 := Affine.addi h3 c1 (e := ((t2.val + 1 : ℕ) : ℤ)) (by omega)
  have h5 := Affine.toNat_of (Affine.indexCast h4) (by omega)
  unfold nextIx
  omega

/-- A row from `o` on, counted from `o` and placed at `o`, is that row. -/
theorem emb_rows (o : ℕ) (inb : ∀ a, (![o, 0] : Fin 2 → ℕ) a + S16x512.size a ≤ S1536x512.size a) (y : S1536x512.Idx) (ho : o ≤ (y 0).val)
    (hx : (y 0).val - o < 16) : (Rect.unit (s := S1536x512) ![o, 0] S16x512.size inb).emb (ix2 ⟨(y 0).val - o, hx⟩ (y 1)) = y := by
  refine funext fun a => ?_
  match a with
  | ⟨0, _⟩ => exact Fin.ext (by show o + 1 * ((y 0).val - o) = (y 0).val; omega)
  | ⟨1, _⟩ => exact Fin.ext (by show 0 + 1 * (y 1).val = (y 1).val; omega)

/-- After the last store of the dequantisation the whole weight buffer holds `dequant`. -/
theorem dequant_done (t2 : Fin k0_t2_loop.trips) (X5 : arg5.view.ty.Contents (Elt F)) (X6 : arg6.view.ty.Contents (Elt F)) (f9 : arg9.view.ty.Contents (Elt F))
    (v : FVec F S16x512 .bf16)
    (hd : ∀ y : S1536x512.Idx, (y 0).val < 1520 → arg9.view.read (Elt F) f9 y = dequant (arg5.view.read (Elt F) X5) (arg6.view.read (Elt F) X6) (tenantOf t2) y)
    (hl : ∀ x, k0_pay4 v x = dequant (arg5.view.read (Elt F) X5) (arg6.view.read (Elt F) X6) (tenantOf t2)
      ((Rect.unit (s := S1536x512) ![1520, 0] S16x512.size inb_S1536x512_S16x512_1520_0).emb x)) :
    arg9.view.read (Elt F) (arg9.view.writes (Elt F) f9 [⟨Rect.unit ![1520, 0] S16x512.size inb_S1536x512_S16x512_1520_0, k0_pay4 v⟩])
      = dequant (arg5.view.read (Elt F) X5) (arg6.view.read (Elt F) X6) (tenantOf t2) := by
  funext y
  by_cases hy : (y 0).val < 1520
  · rw [← hd y hy]
    exact View.read_writes_cons_rows_of_not_mem (o := 1520) (W := 16) arg9.view f9 (off := ![1520, 0]) (size := S16x512.size) _ _ _ y rfl rfl (Or.inl hy)
  · have hy0 : (y 0).val < 1536 := (y 0).isLt
    have hx : (y 0).val - 1520 < 16 := by omega
    refine (View.read_writes_cons_rows_of_mem (o := 1520) arg9.view f9 (off := ![1520, 0]) (size := S16x512.size) _ _ _ y
      (ix2 ⟨(y 0).val - 1520, hx⟩ (y 1)) rfl (by show _ = _ + ((y 0).val - 1520); omega) rfl).trans ?_
    exact (hl _).trans (congrArg _ (emb_rows 1520 _ y (by omega) hx))

/-- The tenants loop's invariant: before tenant `k` the accumulator holds, in the rows of the tokens, what the tenants before it leave. -/
abbrev invTenants (c : Dev nD) (q : PosShare TreeShare) (T : arg1.view.ty.Contents (Elt F)) (X5 : arg5.view.ty.Contents (Elt F)) (X6 : arg6.view.ty.Contents (Elt F))
    (X8 : arg8.view.ty.Contents (Elt F)) (G : FVec F S1408x512 .f32) (k : ℕ) : sProp 𝕄G :=
  iprop((arg1.view.loc (c : Thread nD τ) ↦[arg1.view.set]{q} T) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (∃ f, (arg9.view.loc (c : Thread nD τ) ↦[arg9.view.set]{fullShare} f))
    ∗ ∃ f, (arg10.view.loc (c : Thread nD τ) ↦[arg10.view.set]{fullShare} f)
      ∗ ⌜∀ y : S1408x512.Idx, (y 0).val < 1280 → arg10.view.read (Elt F) f y
          = tenants (arg1.view.read (Elt F) T) (arg8.view.read (Elt F) X8) (arg5.view.read (Elt F) X5) (arg6.view.read (Elt F) X6) G k y⌝)

set_option warn.classDefReducibility false in
/-- The loop over the tenants. -/
@[sl_loop] def loopTenants (𝒱 : Variants) (c : Dev nD) (bd : Option 𝒱.V) (E : Set ℕ) (q : PosShare TreeShare) (T : arg1.view.ty.Contents (Elt F))
    (X5 : arg5.view.ty.Contents (Elt F)) (X6 : arg6.view.ty.Contents (Elt F)) (X8 : arg8.view.ty.Contents (Elt F)) (G : FVec F S1408x512 .f32)
    (hT : ∀ j, (arg1.view.read (Elt F) T j).toNat ≤ 1280) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 where
  inv k _ := invTenants arg1 arg5 arg6 arg8 arg9 arg10 c q T X5 X6 X8 G k
  step k acc := by
    iintro ⟨H1, H5, H6, H8, ⟨%f9, H9⟩, ⟨%f, H10, %h⟩⟩
    unfold k0_t2_body
    sl_exec
    have hk : k.val < 7 := trips_t2 ▸ k.isLt
    have hlo : loopTenants.sl.r arg1 T k = arg1.view.read (Elt F) T (ix1 (Fin.ofNat 8 k.val)) := by
      unfold loopTenants.sl.r
      rw [View.readAt_apply]
      refine congrArg (arg1.view.read (Elt F) T) (funext fun a => ?_)
      match a with
      | ⟨0, _⟩ => exact Fin.ext (by have := tenantIx_eq k; show tenantIx k + 1 * 0 = k.val % 8; omega)
    have hhi : loopTenants.sl.r_1 arg1 T k = arg1.view.read (Elt F) T (ix1 (Fin.ofNat 8 (k.val + 1))) := by
      unfold loopTenants.sl.r_1
      rw [View.readAt_apply]
      refine congrArg (arg1.view.read (Elt F) T) (funext fun a => ?_)
      match a with
      | ⟨0, _⟩ => exact Fin.ext (by have := nextIx_eq k; show nextIx k + 1 * 0 = (k.val + 1) % 8; omega)
    generalize loopTenants.sl.r arg1 T k = lo at hlo ⊢
    generalize loopTenants.sl.r_1 arg1 T k = hi at hhi ⊢
    have hc : k0_chk1 lo hi := by subst hlo; subst hhi; exact chk1 (hT _) (hT _)
    iapply (wp_assume _ _ _ _ hc)
    by_cases h2 : k0_cond2 lo hi = 1#1
    · rw [dif_pos h2]
      rw [wp_bind]
      iapply (dequant_run i arg1 harg1 arg2 harg2 arg3 harg3 arg4 harg4 arg5 harg5 arg6 harg6 arg7 harg7 arg8 harg8 arg9 harg9 arg10 harg10 c k _ X5 X6 f9 𝒱 bd E)
      isplitl [H5]; · iexact H5
      isplitl [H6]; · iexact H6
      isplitl [H9]; · iexact H9
      iintro %v %f9' ⟨H5, H6, H9, %hd⟩
      sl_exec
      sl_step
      isplitl [H1]; · iexact H1
      isplitl [H5]; · iexact H5
      isplitl [H6]; · iexact H6
      isplitl [H8]; · iexact H8
      isplitl [H9]; · iexists _; iexact H9
      iexists _
      isplitl [H10]; · iexact H10
      ipureintro
      intro y hy
      have hlt : BitVec.toNat lo < BitVec.toNat hi := by
        subst hlo; subst hhi; exact (cond2_iff (hT _) (hT _)).mp h2
      have h4 : Scf.trips (k0_t4_loop lo hi).lb (k0_t4_loop lo hi).ub (k0_t4_loop lo hi).st = 0 := by
        subst hlo; subst hhi; exact trips_t4 (hT _) (hT _) hlt
      rw [h4, pb_k0_t4.eq_1]
      refine (congrFun hL3 y).trans ?_
      show _ = tenantStep (arg8.view.read (Elt F) X8) (dequant (arg5.view.read (Elt F) X5) (arg6.view.read (Elt F) X6) (Fin.ofNat 7 k.val))
        (arg1.view.read (Elt F) T (ix1 (Fin.ofNat 8 k.val))) (arg1.view.read (Elt F) T (ix1 (Fin.ofNat 8 (k.val + 1))))
        (tenants (arg1.view.read (Elt F) T) (arg8.view.read (Elt F) X8) (arg5.view.read (Elt F) X5) (arg6.view.read (Elt F) X6) G k.val) y
      have hg : tenantOf k = Fin.ofNat 7 k.val := Fin.ext (Nat.mod_eq_of_lt hk).symm
      rw [← hg, ← hlo, ← hhi, dequant_done arg5 arg6 arg9 k X5 X6 f9' v hd.1 hd.2]
      unfold tenantStep
      rw [if_pos h2]
      exact chunks_congr _ _ lo hi _ _ y (h y hy) _
    · rw [dif_neg h2]
      sl_step
      isplitl [H1]; · iexact H1
      isplitl [H5]; · iexact H5
      isplitl [H6]; · iexact H6
      isplitl [H8]; · iexact H8
      isplitl [H9]; · iexists _; iexact H9
      iexists _
      isplitl [H10]; · iexact H10
      ipureintro
      intro y hy
      rw [h y hy]
      show _ = tenantStep _ _ _ _ _ y
      rw [← hlo, ← hhi]
      unfold tenantStep
      rw [if_neg h2]

end Cert.Proof

end
-- ==== Proof.Body.lean ====
/- The kernel body as a triple: what it leaves at one grid point. -/
module

public import proofs.«01_k».proof.Proof.Fill
public import proofs.«01_k».proof.Proof.Tenants

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (i : grid0.Coords) (arg1 : Memref sig .tc .smem S8 .i32) (harg1 : arg1.IsWhole) (arg2 : Memref sig .tc .vmem S1280x1536 .bf16) (harg2 : arg2.IsWhole) (arg3 : Memref sig .tc .vmem S1536x512 .fp8e4m3) (harg3 : arg3.IsWhole) (arg4 : Memref sig .tc .vmem S1x512 .f32) (harg4 : arg4.IsWhole) (arg5 : Memref sig .tc .vmem S7x384x512 .i16) (harg5 : arg5.IsWhole) (arg6 : Memref sig .tc .vmem S7x12x512 .bf16) (harg6 : arg6.IsWhole) (arg7 : Memref sig .tc .vmem S1280x512 .bf16) (harg7 : arg7.IsWhole) (arg8 : Memref sig .tc .vmem S1408x1536 .bf16) (harg8 : arg8.IsWhole) (arg9 : Memref sig .tc .vmem S1536x512 .bf16) (harg9 : arg9.IsWhole) (arg10 : Memref sig .tc .vmem S1408x512 .f32) (harg10 : arg10.IsWhole)

/-- After the fill loop and the store of zeros below it, the buffer of permuted activations is `xpad`. -/
theorem fill_done (X2 : arg2.view.ty.Contents (Elt F)) (f : arg8.view.ty.Contents (Elt F))
    (h : ∀ y : S1408x1536.Idx, (y 0).val < 16 * Scf.trips k0_t1_loop.lb k0_t1_loop.ub k0_t1_loop.st → arg8.view.read (Elt F) f y = xpad (arg2.view.read (Elt F) X2) y) :
    arg8.view.read (Elt F) (arg8.view.writes (Elt F) f [⟨Rect.unit (s := S1408x1536) ![1280, 0] S128x1536.size inb_S1408x1536_S128x1536_1280_0, k0_pay2⟩])
      = xpad (arg2.view.read (Elt F) X2) := by
  rw [show Scf.trips k0_t1_loop.lb k0_t1_loop.ub k0_t1_loop.st = 80 from trips_t1] at h
  funext y
  by_cases hy : (y 0).val < 1280
  · exact (View.read_writes_cons_rows_of_not_mem (o := 1280) (W := 128) arg8.view f (off := ![1280, 0]) (size := S128x1536.size) _ _ _ y rfl rfl (by omega)).trans
      (h y (by omega))
  · have hy' : (y 0).val < 1408 := (y 0).isLt
    have hx0 : (y 0).val - 1280 < 128 := by omega
    refine (View.read_writes_cons_rows_of_mem (o := 1280) arg8.view f (off := ![1280, 0]) (size := S128x1536.size) _ _ _ y
      (ix2 ⟨(y 0).val - 1280, hx0⟩ (y 1)) rfl (by show _ = 1280 + ((y 0).val - 1280); omega) rfl).trans ?_
    unfold xpad
    rw [if_neg hy]
    have hrow : (⟨(y 0).val - 1280, hx0⟩ : Fin 128) = Fin.ofNat 128 (y 0).val := by
      have hm : (y 0).val - 1280 = (y 0).val % 128 := by omega
      exact Fin.ext hm
    rw [hrow]

/-- A load of a whole rank-2 buffer reads it. -/
theorem readAt_all {κ : Kind} {sp : Space} {e : EltTy} {d : Fin 2 → ℕ} (v : View sig κ sp (⟨2, d⟩ : Shape) e) (f : v.ty.Contents (Elt F))
    (inb : ∀ a : Fin 2, (![0, 0] : Fin 2 → ℕ) a + d a ≤ d a) :
    v.readAt (Elt F) (Rect.unit (s := ⟨2, d⟩) ![0, 0] d inb).toLoadRect f = v.read (Elt F) f := by
  funext j
  rw [View.readAt_apply]
  refine congrArg (v.read (Elt F) f) (funext fun a => ?_)
  match a with
  | ⟨0, _⟩ => exact Fin.ext (by show 0 + 1 * (j 0).val = (j 0).val; omega)
  | ⟨1, _⟩ => exact Fin.ext (by show 0 + 1 * (j 1).val = (j 1).val; omega)

/-- The store of the base product leaves `baseAcc` in the rows of the tokens. -/
theorem base_done (X2 : arg2.view.ty.Contents (Elt F)) (X3 : arg3.view.ty.Contents (Elt F)) (X4 : arg4.view.ty.Contents (Elt F))
    (f : arg10.view.ty.Contents (Elt F)) (y : S1408x512.Idx) (hy : (y 0).val < 1280) :
    arg10.view.read (Elt F) (arg10.view.writes (Elt F) f [⟨Rect.unit (s := S1408x512) ![0, 0] S1280x512.size inb_S1408x512_S1280x512_0_0,
        k0_pay3 (arg2.view.readAt (Elt F) (Rect.unit (s := S1280x1536) ![0, 0] S1280x1536.size inb_S1280x1536_S1280x1536_0_0).toLoadRect X2)
          (arg3.view.readAt (Elt F) (Rect.unit (s := S1536x512) ![0, 0] S1536x512.size inb_S1536x512_S1536x512_0_0).toLoadRect X3)
          (arg4.view.readAt (Elt F) (Rect.unit (s := S1x512) ![0, 0] S1x512.size inb_S1x512_S1x512_0_0).toLoadRect X4)⟩]) y
      = baseAcc (arg2.view.read (Elt F) X2) (arg3.view.read (Elt F) X3) (arg4.view.read (Elt F) X4) y := by
  refine (View.read_writes_cons_rows_of_mem (o := 0) arg10.view f (off := ![0, 0]) (size := S1280x512.size) _ _ _ y
    (ix2 ⟨(y 0).val, hy⟩ (y 1)) rfl (by show _ = 0 + (y 0).val; omega) rfl).trans ?_
  unfold baseAcc
  refine congr (congr (congr (congrArg k0_pay3 (readAt_all arg2.view X2 _)) (readAt_all arg3.view X3 _)) (readAt_all arg4.view X4 _)) (funext fun a => ?_)
  match a with
  | ⟨0, _⟩ => exact Fin.ext (Nat.mod_eq_of_lt hy).symm
  | ⟨1, _⟩ => rfl

/-- The store of the result leaves the result block. -/
theorem out_done (x1 : Vec F S8 .i32) (x2 : Vec F S1280x1536 .bf16) (x3 : Vec F S1536x512 .fp8e4m3) (x4 : Vec F S1x512 .f32) (x5 : Vec F S7x384x512 .i16)
    (x6 : Vec F S7x12x512 .bf16) (f : arg10.view.ty.Contents (Elt F)) (f7 : arg7.view.ty.Contents (Elt F))
    (h : ∀ y : S1408x512.Idx, (y 0).val < 1280 → arg10.view.read (Elt F) f y
      = tenants x1 (xpad x2) x5 x6 (baseAcc x2 x3 x4) (Scf.trips k0_t2_loop.lb k0_t2_loop.ub k0_t2_loop.st) y) :
    arg7.view.read (Elt F) (arg7.view.writes (Elt F) f7 [⟨Rect.unit (s := S1280x512) ![0, 0] S1280x512.size inb_S1280x512_S1280x512_0_0,
        k0_pay7 (arg10.view.readAt (Elt F) (Rect.unit (s := S1408x512) ![0, 0] S1280x512.size inb_S1408x512_S1280x512_0_0).toLoadRect f)⟩])
      = outBlock x1 x2 x3 x4 x5 x6 := by
  rw [show Scf.trips k0_t2_loop.lb k0_t2_loop.ub k0_t2_loop.st = 7 from trips_t2] at h
  have hr : arg10.view.readAt (Elt F) (Rect.unit (s := S1408x512) ![0, 0] S1280x512.size inb_S1408x512_S1280x512_0_0).toLoadRect f
      = fun y => tenants x1 (xpad x2) x5 x6 (baseAcc x2 x3 x4) 7 (ix2 (Fin.ofNat 1408 (y 0).val) (y 1)) := by
    funext j
    have hj : (j 0).val < 1280 := (j 0).isLt
    rw [View.readAt_apply]
    refine Eq.trans (congrArg (arg10.view.read (Elt F) f) (a₂ := ix2 (Fin.ofNat 1408 (j 0).val) (j 1)) (funext fun a => ?_)) (h _ ?_)
    · match a with
      | ⟨0, _⟩ => exact Fin.ext (by show 0 + 1 * (j 0).val = (j 0).val % 1408; omega)
      | ⟨1, _⟩ => exact Fin.ext (by show 0 + 1 * (j 1).val = (j 1).val; omega)
    · show (j 0).val % 1408 < 1280
      omega
  funext y
  refine (View.read_writes_cons_rows_of_mem (o := 0) arg7.view f7 (off := ![0, 0]) (size := S1280x512.size) _ _ _ y
    y rfl (by omega) rfl).trans ?_
  exact congrFun (congrArg k0_pay7 hr) y

include harg2 harg3 harg4 harg7 harg8 harg10 in
set_option maxRecDepth 20000 in
set_option maxHeartbeats 4000000 in
/-- The kernel body: from its tables and blocks, and the permuted activations unless it is the point that stores them, it
    leaves the result block and the permuted activations. -/
theorem body_run (c : Dev nD) (E : Set ℕ) (q : PosShare TreeShare) (x1 : Vec F S8 .i32) (hx1 : ∀ j, (x1 j).toNat ≤ 1280)
    (x2 : Vec F S1280x1536 .bf16) (x3 : Vec F S1536x512 .fp8e4m3) (x4 : Vec F S1x512 .f32) (x5 : Vec F S7x384x512 .i16) (x6 : Vec F S7x12x512 .bf16)
    (x8 : Vec F S1408x1536 .bf16) (hx8 : ¬ k0_cond1 i = 1#1 → x8 = xpad x2) (K : PUnit → sProp 𝕄G) :
    iprop(owns (c : Thread nD τ) arg1 q x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare x8
        ∗ (∃ d, owns (c : Thread nD τ) arg9 fullShare d) ∗ (∃ d, owns (c : Thread nD τ) arg10 fullShare d)
        ∗ (iprop(owns (c : Thread nD τ) arg1 q x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outBlock x1 x2 x3 x4 x5 x6) ∗ owns (c : Thread nD τ) arg8 fullShare (xpad x2)
            ∗ (∃ d, owns (c : Thread nD τ) arg9 fullShare d) ∗ (∃ d, owns (c : Thread nD τ) arg10 fullShare d)) -∗ K ⟨⟩))
      ⊢ wp frame (wpE (defs₀ (F := F)) Variants.none (c : Thread nD τ) none) E
          (cc0_deltazip i arg1 harg1 arg2 harg2 arg3 harg3 arg4 harg4 arg5 harg5 arg6 harg6 arg7 harg7 arg8 harg8 arg9 harg9 arg10 harg10) K := by
  simp only [cc0_deltazip_eq_skeleton]; unfold cc0_deltazip_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, Hk⟩
  subst hf1 hf2 hf3 hf4 hf5 hf6 hf8
  by_cases h1 : k0_cond1 i = 1#1
  case' pos =>
    rw [dif_pos h1]
    let L1 := loopFill i arg1 harg1 arg2 harg2 arg3 harg3 arg4 harg4 arg5 harg5 arg6 harg6 arg7 harg7 arg8 harg8 arg9 harg9 arg10 harg10 Variants.none c none E h1 f2
    sl_exec
    have h8 := fill_done arg2 arg8 f2 _ hL2
    generalize arg8.view.writes (Elt F) _ [_] = f8' at h8 ⊢
  case' neg =>
    rw [dif_neg h1]
    have h8 := hx8 h1
    rename' f8 => f8'
    sl_exec
  all_goals
    have h10 := base_done arg2 arg3 arg4 arg10 f2 f3 f4 f10
    generalize arg10.view.writes (Elt F) f10 _ = f10' at h10 ⊢
    let L2 := loopTenants i arg1 harg1 arg2 harg2 arg3 harg3 arg4 harg4 arg5 harg5 arg6 harg6 arg7 harg7 arg8 harg8 arg9 harg9 arg10 harg10 Variants.none c none E q f1 f5 f6 f8' (baseAcc (arg2.view.read (Elt F) f2) (arg3.view.read (Elt F) f3) (arg4.view.read (Elt F) f4)) hx1
    sl_exec
    rw [h8] at hL6
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr
      swap; · iexact H7
      ipureintro
      exact out_done arg7 arg10 _ _ _ _ _ _ _ f7 hL6
    isplitl [H8]
    · iexists f8'; isplitr; · ipureintro; exact h8
      iexact H8
    isplitl [H9]
    · iexists _; iexists _; isplitr
      swap; · iexact H9
      ipureintro; rfl
    iexists _; iexists _; isplitr
    swap; · iexact H10
    ipureintro; rfl

end Cert.Proof

end
-- ==== Proof.Frame.lean ====
/- The run of the kernel: from tables in range, every grid point leaves its result block, the arguments end unchanged and
   the machine is quiescent. -/
module

public import proofs.«01_k».proof.Proof.Body
public import proofs.«01_k».proof.Proof.Gen.KernelIdeal.Launch
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open Idealize.ShloMosaic.Rounds
open Idealize.ShloMosaic.Pipeline (Dat Cfg Window BodyObligation cellOf)
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## The region's entry -/

/-- The table of tenant offsets, as the launch finds it. -/
def tbl : pre0.Contents (Elt F) := fun k => m (((0 : Dev nD) : Thread nD τ).loc (pre0.ref k))

/-- The table's contents are admissible: no block's place depends on them. -/
abbrev adm : (p : Fin 1) → (pcfgs (F := F) p).Adm := fun _ => ⟨tbl m, trivial⟩

/-- The pipeline at the table. -/
abbrev cfgA : Cfg sig Λ₀ := cfg0 (adm m 0)

/-- Core `c`'s buffers when the region is entered: after the two reshapes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program up to the region. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub hostOps0_fresh main_chain

/-- The region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- The region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- The region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- The region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- The region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- The region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- Input window 0's staging buffer holds its block at every point, for any proof data whose body leaves it there. -/
theorem before0_0_of {c : Dev nD} (dat : Dat τ (Elt F) Unit ℕ (UR sig nD τ) ℕ (cfgA m) c) (hA : dat.A 0 = V m c (Pipeline.arrRef spec0 0))
    (hafter : ∀ t, dat.after 0 t = iblk m c 0 t) (t : Fin (cfgA m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data whose body leaves it there. -/
theorem before0_1_of {c : Dev nD} (dat : Dat τ (Elt F) Unit ℕ (UR sig nD τ) ℕ (cfgA m) c) (hA : dat.A 1 = V m c (Pipeline.arrRef spec0 1))
    (hafter : ∀ t, dat.after 1 t = iblk m c 1 t) (t : Fin (cfgA m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data whose body leaves it there. -/
theorem before0_2_of {c : Dev nD} (dat : Dat τ (Elt F) Unit ℕ (UR sig nD τ) ℕ (cfgA m) c) (hA : dat.A 2 = V m c (Pipeline.arrRef spec0 2))
    (hafter : ∀ t, dat.after 2 t = iblk m c 2 t) (t : Fin (cfgA m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data whose body leaves it there. -/
theorem before0_3_of {c : Dev nD} (dat : Dat τ (Elt F) Unit ℕ (UR sig nD τ) ℕ (cfgA m) c) (hA : dat.A 3 = V m c (Pipeline.arrRef spec0 3))
    (hafter : ∀ t, dat.after 3 t = iblk m c 3 t) (t : Fin (cfgA m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data whose body leaves it there. -/
theorem before0_4_of {c : Dev nD} (dat : Dat τ (Elt F) Unit ℕ (UR sig nD τ) ℕ (cfgA m) c) (hA : dat.A 4 = V m c (Pipeline.arrRef spec0 4))
    (hafter : ∀ t, dat.after 4 t = iblk m c 4 t) (t : Fin (cfgA m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The activations as the region finds them. -/
def actv (c : Dev nD) : FVec F S1280x1536 .bf16 := V m c main_v0

/-- Window 0's block is all the activations at every point. -/
theorem iblk0_eq (c : Dev nD) (t : Fin (cfgA m).N) : iblk m c 0 t = actv m c := by
  unfold iblk actv
  funext j
  refine congrArg (V m c main_v0) (funext fun a => ?_)
  match a with
  | ⟨0, _⟩ => exact Fin.ext ((congrArg (_ + ·) (Nat.one_mul _)).trans (Nat.zero_add _))
  | ⟨1, _⟩ => exact Fin.ext ((congrArg (_ + ·) (Nat.one_mul _)).trans (Nat.zero_add _))

/-- The table as the body reads it. -/
def offs : Vec F S8 .i32 := tbl m 0

/-- The first point is the one that fills. -/
theorem cond1_first (t : Fin grid0.N) (h : ¬ k0_cond1 (grid0.coords t) = 1#1) : t.val ≠ 0 := by
  rcases fin_N0 t with rfl | rfl | rfl | rfl | rfl | rfl | rfl | rfl
  · exact absurd (by decide +kernel) h
  all_goals decide +kernel

/-! ## The proof data -/

/-- What the region holds between points: the table, the permuted activations once the first point has run, and the two
    other scratch buffers and the generator register at anything. -/
def inv (c : Dev nD) (n : ℕ) : sProp 𝕄G :=
  iprop(owns (c : Thread nD τ) (Memref.whole main_arg5) fullShare.right (offs m)
    ∗ (∃ x8, ⌜n ≠ 0 → x8 = xpad (actv m c)⌝ ∗ owns (c : Thread nD τ) (Memref.whole cc0_scratch0) fullShare x8)
    ∗ (∃ d, owns (c : Thread nD τ) (Memref.whole cc0_scratch1) fullShare d) ∗ (∃ d, owns (c : Thread nD τ) (Memref.whole cc0_scratch2) fullShare d)
    ∗ ∃ r, prngReg c r)

/-- The proof data of the pipeline: each input's buffer at its block, the output's at the result block. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (offs m) (actv m c) (iblk m c 1 t) (iblk m c 2 t) (iblk m c 3 t) (iblk m c 4 t)
  Φ t := inv m c t.val
  q _ := fullShare
  owed _ := 0

theorem A_eq (c : Dev nD) (w : Fin (cfgA m).W) : (dats m 0 c).A w = V m c (Pipeline.arrRef spec0 w) := by
  dsimp only [dats]

theorem after0_0 (c : Dev nD) (t : Fin (cfgA m).N) : (dats m 0 c).after 0 t = iblk m c 0 t := rfl
theorem after0_1 (c : Dev nD) (t : Fin (cfgA m).N) : (dats m 0 c).after 1 t = iblk m c 1 t := rfl
theorem after0_2 (c : Dev nD) (t : Fin (cfgA m).N) : (dats m 0 c).after 2 t = iblk m c 2 t := rfl
theorem after0_3 (c : Dev nD) (t : Fin (cfgA m).N) : (dats m 0 c).after 3 t = iblk m c 3 t := rfl
theorem after0_4 (c : Dev nD) (t : Fin (cfgA m).N) : (dats m 0 c).after 4 t = iblk m c 4 t := rfl
theorem after0_5 (c : Dev nD) (t : Fin (cfgA m).N) : (dats m 0 c).after 5 t
    = outBlock (offs m) (actv m c) (iblk m c 1 t) (iblk m c 2 t) (iblk m c 3 t) (iblk m c 4 t) := rfl

theorem before0_0 (c : Dev nD) (t : Fin (cfgA m).N) (d) : (dats m 0 c).before 0 t d = iblk m c 0 t :=
  before0_0_of m (dats m 0 c) (A_eq m c 0) (after0_0 m c) t d
theorem before0_1 (c : Dev nD) (t : Fin (cfgA m).N) (d) : (dats m 0 c).before 1 t d = iblk m c 1 t :=
  before0_1_of m (dats m 0 c) (A_eq m c 1) (after0_1 m c) t d
theorem before0_2 (c : Dev nD) (t : Fin (cfgA m).N) (d) : (dats m 0 c).before 2 t d = iblk m c 2 t :=
  before0_2_of m (dats m 0 c) (A_eq m c 2) (after0_2 m c) t d
theorem before0_3 (c : Dev nD) (t : Fin (cfgA m).N) (d) : (dats m 0 c).before 3 t d = iblk m c 3 t :=
  before0_3_of m (dats m 0 c) (A_eq m c 3) (after0_3 m c) t d
theorem before0_4 (c : Dev nD) (t : Fin (cfgA m).N) (d) : (dats m 0 c).before 4 t d = iblk m c 4 t :=
  before0_4_of m (dats m 0 c) (A_eq m c 4) (after0_4 m c) t d

/-! ## The body at a point -/

/-- The body at point `t`, on what the pipeline calls it with. -/
abbrev bodyAt (t : Fin (cfgA m).N) : Prog (TpuEff nD τ sig (Elt F) Λ₀ .tc) PUnit :=
  cc0_deltazip (grid0.coords t) (Memref.whole main_arg5) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (Memref.whole cc0_scratch0) (Memref.isWhole_whole _) (Memref.whole cc0_scratch1) (Memref.isWhole_whole _) (Memref.whole cc0_scratch2) (Memref.isWhole_whole _)

/-- What the body is called with at point `t`, -/
def bodyPre (c : Dev nD) (t : Fin (cfgA m).N) : sProp 𝕄G :=
  iprop((dats m 0 c).Φ t.castSucc ∗ (dats m 0 c).owesAt () t.castSucc
    ∗ (∃ d, owns (c : Thread nD τ) (((cfgA m).win 0).stage ((cfgA m).slots t 0)) fullShare ((dats m 0 c).before 0 t d))
    ∗ (∃ d, owns (c : Thread nD τ) (((cfgA m).win 1).stage ((cfgA m).slots t 1)) fullShare ((dats m 0 c).before 1 t d))
    ∗ (∃ d, owns (c : Thread nD τ) (((cfgA m).win 2).stage ((cfgA m).slots t 2)) fullShare ((dats m 0 c).before 2 t d))
    ∗ (∃ d, owns (c : Thread nD τ) (((cfgA m).win 3).stage ((cfgA m).slots t 3)) fullShare ((dats m 0 c).before 3 t d))
    ∗ (∃ d, owns (c : Thread nD τ) (((cfgA m).win 4).stage ((cfgA m).slots t 4)) fullShare ((dats m 0 c).before 4 t d))
    ∗ (∃ d, owns (c : Thread nD τ) (((cfgA m).win 5).stage ((cfgA m).slots t 5)) fullShare ((dats m 0 c).before 5 t d)))

/-- and what it returns. -/
def bodyPost (c : Dev nD) (t : Fin (cfgA m).N) : sProp 𝕄G :=
  iprop((dats m 0 c).Φ t.succ ∗ (dats m 0 c).owesAt () t.succ
    ∗ owns (c : Thread nD τ) (((cfgA m).win 0).stage ((cfgA m).slots t 0)) fullShare ((dats m 0 c).after 0 t)
    ∗ owns (c : Thread nD τ) (((cfgA m).win 1).stage ((cfgA m).slots t 1)) fullShare ((dats m 0 c).after 1 t)
    ∗ owns (c : Thread nD τ) (((cfgA m).win 2).stage ((cfgA m).slots t 2)) fullShare ((dats m 0 c).after 2 t)
    ∗ owns (c : Thread nD τ) (((cfgA m).win 3).stage ((cfgA m).slots t 3)) fullShare ((dats m 0 c).after 3 t)
    ∗ owns (c : Thread nD τ) (((cfgA m).win 4).stage ((cfgA m).slots t 4)) fullShare ((dats m 0 c).after 4 t)
    ∗ owns (c : Thread nD τ) (((cfgA m).win 5).stage ((cfgA m).slots t 5)) fullShare ((dats m 0 c).after 5 t))

/-- The body at any point. -/
theorem sound_body (hT : ∀ j, (offs m j).toNat ≤ 1280) (c : Dev nD) (t : Fin (cfgA m).N) :
    bodyPre m c t ⊢ wp frame (wpE (defs₀ (F := F)) Variants.none c none) Set.univ (bodyAt m t) (fun _ => bodyPost m c t) := by
  unfold bodyPre bodyPost bodyAt
  simp only [before0_0, before0_1, before0_2, before0_3, before0_4]
  rw [show (dats m 0 c).Φ t.succ = inv m c (t.val + 1) from rfl, show (dats m 0 c).Φ t.castSucc = inv m c t.val from rfl,
    show (dats m 0 c).owesAt () t.succ = (dats m 0 c).owesAt () t.castSucc from rfl,
    after0_0, after0_1, after0_2, after0_3, after0_4, after0_5, iblk0_eq]
  unfold inv
  iintro ⟨⟨Hp1, ⟨%x8, %hx8, Hp8⟩, ⟨%d9, Hp9⟩, ⟨%d10, Hp10⟩, Hr⟩, Ho, ⟨%e0, H0⟩, ⟨%e1, H1⟩, ⟨%e2, H2⟩, ⟨%e3, H3⟩, ⟨%e4, H4⟩, ⟨%e5, H5⟩⟩
  iapply (body_run (grid0.coords t) _ _ _ _ _ _ _ _ _ _ _ _ _ _ _ _ _ _ _ _ c Set.univ fullShare.right (offs m) hT (actv m c) (iblk m c 1 t) (iblk m c 2 t) (iblk m c 3 t) (iblk m c 4 t)
    x8 (fun h => hx8 (cond1_first t h)) _)
  isplitl [Hp1]; · iexact Hp1
  isplitl [H0]; · iexact H0
  isplitl [H1]; · iexact H1
  isplitl [H2]; · iexact H2
  isplitl [H3]; · iexact H3
  isplitl [H4]; · iexact H4
  isplitl [H5]; · iexists _; iexact H5
  isplitl [Hp8]; · iexact Hp8
  isplitl [Hp9]; · iexists _; iexact Hp9
  isplitl [Hp10]; · iexists _; iexact Hp10
  iintro ⟨Hp1, H0, H1, H2, H3, H4, H5, Hp8, Hp9, Hp10⟩
  isplitl [Hp1 Hp8 Hp9 Hp10 Hr]
  · isplitl [Hp1]; · iexact Hp1
    isplitl [Hp8]
    · iexists _; isplitr
      swap; · iexact Hp8
      ipureintro; exact fun _ => rfl
    isplitl [Hp9]; · iexact Hp9
    isplitl [Hp10]; · iexact Hp10
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin (cfgA m).N) :
    defs₀ (F := F) .tc (cfgA m).body ((cfgA m).bodyArgs t ((cfgA m).slots t)) = bodyAt m t := by
  unfold defs₀; rw [Defs.onTc_tc]

/-- The library's body obligation, at every point. -/
theorem body_obligation (hT : ∀ j, (offs m j).toNat ≤ 1280) (c : Dev nD) :
    BodyObligation (dats (F := F) m 0 c) (defs₀ (F := F)) Variants.none () Set.univ := fun t => by
  rw [bigSep_W0, bigSep_W0, defs₀_row]
  exact triple_restated (sound_body m hT c t) rfl .rfl fun _ => .rfl

/-! ## The run -/

/-- Entering the region: the scratch at anything and the table. -/
theorem inv_enter (c : Dev nD) : iprop(Pipeline.ΦA spec0 c ∗ Pipeline.ΦT pre0 (tbl m) c) ⊢ inv m c 0 := by
  unfold Pipeline.ΦA Pipeline.ΦT Pipeline.prefHeld inv
  rw [scopedRest0_eq, bigSep_univ_eq_bigSepL [(0 : Fin 1)] (by decide) (by decide), bigSepL_singleton]
  simp only [owns_whole]
  iintro ⟨⟨⟨⟨%f8, H8⟩, ⟨%f9, H9⟩, ⟨%f10, H10⟩⟩, Hr⟩, H1⟩
  isplitl [H1]; · iexact H1
  isplitl [H8]
  · iexists f8; isplitr
    · ipureintro; exact fun h => absurd rfl h
    · iexact H8
  isplitl [H9]; · iexists f9; iexact H9
  isplitl [H10]; · iexists f10; iexact H10
  iexact Hr

/-- Leaving it: the scratch forgotten, the table let go. -/
theorem inv_leave (c : Dev nD) (n : ℕ) : inv m c n ⊢ Pipeline.ΦA spec0 c := by
  unfold Pipeline.ΦA inv
  rw [scopedRest0_eq]
  simp only [owns_whole]
  iintro ⟨-, ⟨%f8, -, H8⟩, ⟨%f9, H9⟩, ⟨%f10, H10⟩, Hr⟩
  isplitl [H8 H9 H10]
  · isplitl [H8]; · iexists f8; iexact H8
    isplitl [H9]; · iexists f9; iexact H9
    iexists f10; iexact H10
  iexact Hr

set_option backward.isDefEq.respectTransparency.types false in
set_option maxHeartbeats 800000 in
/-- Every execution ends with each array at what the proof data says, and quiescent. -/
theorem run_main (hT : ∀ j, (offs m j).toNat ≤ 1280) : θ_run defs (onTc (τ := τ) (main (F := F))) (s₀ m ρ)
    (fun r => Pipeline.FramePost (Pipeline.pin pcfgs (adm m)) (dats m) 0 (V m) r ∧ r.2.sem = fun _ => 0) :=
  Pipeline.θ_run_frameP_track (Q' := _) pcfgs (adm m) (dats m) (0 : Fin 1) launch0 defs₀ Variants.none m ρ main
    (hbody := fun c => (body_obligation m hT c).loose) (hshare := fun c => (dats m 0 c).share_full fun _ => rfl)
    (howed := fun _ _ => rfl) (V := V m) (hmain := hmain m) (hA := A_eq m)
    (hpf := fun c k => by
      obtain rfl : c = 0 := Subsingleton.elim _ _
      match k with
      | ⟨0, _⟩ => exact V_main_arg5 m 0)
    (hin := inv_enter m) (hout := fun c => inv_leave m c _)

/-- The arguments end unchanged and the machine quiescent. -/
theorem frame_run (hT : ∀ j, (offs m j).toNat ≤ 1280) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (show ∀ w : Fin 6, (spec0 w).arr.view.ref ≠ main_arg0 by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (show ∀ w : Fin 6, (spec0 w).arr.view.ref ≠ main_arg2 by decide))).trans (V_main_arg2 m c),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).2 main_arg5 (Pipeline.mem_restRefs_of main_arg5 (by decide) (show ∀ w : Fin 6, (spec0 w).arr.view.ref ≠ main_arg5 by decide))).trans (V_main_arg5 m c)⟩, h.2⟩) (run_main m ρ hT)

end Cert.Proof

end
-- ==== Proof.Same.lean ====
/- The program of the kernel and its ideal counterpart have the same text, so they are the same program: what is proved
   of one over any reading of the floats holds of the other. -/
module

public import proofs.«01_k».proof.Proof.Gen.KernelIdeal.Launch
public import proofs.«01_k».proof.Proof.Gen.KernelIdeal.Skeleton
public import proofs.«01_k».proof.Proof.Gen.Kernel.Skeleton
public import proofs.«01_k».proof.Proof.Gen.Kernel.Launch

@[expose] public section
noncomputable section
namespace Cert.Proof
open Idealize Idealize.ShloMosaic
variable {F : FTy → Type} [FloatOps F]

/-- The two programs have the same fill loop. -/
theorem k0_t1_body_eq : @Cert.Kernel.Gen.k0_t1_body F _ = @Cert.KernelIdeal.Gen.k0_t1_body F _ := by
  unfold Cert.Kernel.Gen.k0_t1_body Cert.KernelIdeal.Gen.k0_t1_body
  rfl

/-- The two programs have the same dequantization loop. -/
theorem k0_t3_body_eq : @Cert.Kernel.Gen.k0_t3_body F _ = @Cert.KernelIdeal.Gen.k0_t3_body F _ := by
  unfold Cert.Kernel.Gen.k0_t3_body Cert.KernelIdeal.Gen.k0_t3_body
  rfl

/-- The two programs have the same chunk loop. -/
theorem k0_t4_body_eq : @Cert.Kernel.Gen.k0_t4_body F _ = @Cert.KernelIdeal.Gen.k0_t4_body F _ := by
  unfold Cert.Kernel.Gen.k0_t4_body Cert.KernelIdeal.Gen.k0_t4_body
  rfl

/-- The two programs have the same tenant loop. -/
theorem k0_t2_body_eq : @Cert.Kernel.Gen.k0_t2_body F _ = @Cert.KernelIdeal.Gen.k0_t2_body F _ := by
  unfold Cert.Kernel.Gen.k0_t2_body Cert.KernelIdeal.Gen.k0_t2_body
  rfl

/-- The two bodies are the same. -/
theorem cc0_deltazip_skel_eq : @Cert.Kernel.Gen.cc0_deltazip_skel F _ = @Cert.KernelIdeal.Gen.cc0_deltazip_skel F _ := by
  unfold Cert.Kernel.Gen.cc0_deltazip_skel Cert.KernelIdeal.Gen.cc0_deltazip_skel
  rfl

/-- The two bodies, as printed, are the same. -/
theorem cc0_eq : @Cert.Kernel.cc0_deltazip F _ _ = @Cert.KernelIdeal.cc0_deltazip F _ _ :=
  Cert.Kernel.Gen.cc0_deltazip_eq_skeleton.trans (cc0_deltazip_skel_eq.trans Cert.KernelIdeal.Gen.cc0_deltazip_eq_skeleton.symm)

/-- The two tables of bodies are the same. -/
theorem defs₀_eq : @Cert.Kernel.defs₀ F _ _ = @Cert.KernelIdeal.defs₀ F _ _ := by
  unfold Cert.Kernel.defs₀ Cert.KernelIdeal.defs₀
  rw [cc0_eq]
  refine congrArg Defs.onTc (funext fun x => funext fun y => ?_)
  match x, y with
  | ⟨0, _⟩, (t, s) => rfl
  | ⟨_ + 1, h⟩, _ => exact absurd h (Nat.not_lt.2 (Nat.le_add_left _ _))

/-- The two programs' definitions are the same. -/
theorem defs_eq : @Cert.Kernel.defs F _ _ = @Cert.KernelIdeal.defs F _ _ := by
  unfold Cert.Kernel.defs Cert.KernelIdeal.defs
  rw [defs₀_eq]
  rfl
/-- The two programs' main functions are the same. -/
theorem main_eq : @Cert.Kernel.main F _ _ = @Cert.KernelIdeal.main F _ _ := rfl

end Cert.Proof

end
-- ==== Proof.Pre.lean ====
/- What the precondition of the frames says of the offsets, word by word. -/
module

public import proofs.«01_k».proof.Pre_offsets_in_range
public import Idealize.ShloMosaic.Lib.StableHlo.Predicate

@[expose] public section

namespace Cert.Proof

open Idealize.ShloMosaic

variable {F : FTy → Type} [FloatOps F]

/-- Of two one-bit words whose conjunction is one, both are one. -/
theorem and_one {a b : BitVec 1} (h : IntOp.andi a b = 1#1) : a = 1#1 ∧ b = 1#1 := by
  revert h; revert a b; decide

/-- A word between 0 and 1280 as a signed number is so as an unsigned one. -/
theorem word_range {w : BitVec 32} (h0 : IntOp.cmpi .sge w 0#32 = 1#1) (h1 : IntOp.cmpi .sle w 1280#32 = 1#1) : w.toNat ≤ 1280 := by
  unfold IntOp.cmpi at h0 h1
  rw [StableHlo.Predicate.ofBool_eq_one_iff] at h0 h1
  simp only [BitVec.sle, decide_eq_true_eq] at h0 h1
  have e0 : (0#32 : BitVec 32).toInt = 0 := by decide
  have e1 : (1280#32 : BitVec 32).toInt = 1280 := by decide
  rw [e0] at h0; rw [e1] at h1
  rw [BitVec.toInt_eq_toNat_cond] at h0 h1
  have := w.isLt
  split at h0 <;> omega

/-- Under `offsets_in_range` every offset is at most 1280. -/
theorem offsets_of_pre [Cert.Pre_offsets_in_range.Facts] {x0 x1 x2 x3 x4} {x5 : IVec Cert.Pre_offsets_in_range.S8 32}
    (h : Cert.Pre_offsets_in_range.fn (F := F) x0 x1 x2 x3 x4 x5 = fun _ => 1#1) (j) : (x5 j).toNat ≤ 1280 := by
  have e := congrFun h j
  unfold Cert.Pre_offsets_in_range.fn at e
  exact word_range (and_one e).1 (and_one e).2

end Cert.Proof
-- ==== Proof.Packed.lean ====
/- What the precondition of the value claim says of the arguments, word by word. -/
module

public import proofs.«01_k».proof.Proof.Pre
public import proofs.«01_k».proof.Pre_well_packed
public import Idealize.ShloMosaic.Lib.StableHlo.Predicate
public import Idealize.ShloMosaic.Lib.ReduceAll

@[expose] public section

namespace Cert.Proof

open Idealize.ShloMosaic

variable {F : FTy → Type} [FloatOps F]

/-- The two positions a packed word names are in order: the first value's before the second's. -/
def Ordered (w : BitVec 16) : Prop := w.toNat / 256 % 4 < w.toNat / 1024 % 4

instance : Subsingleton (Cert.Pre_well_packed.S_).Idx := ⟨fun a b => funext fun i => i.elim0⟩

/-- The compare of the two positions, as the precondition makes it on the widened word. -/
theorem ordered_of_cmp {w : BitVec 16}
    (h : IntOp.cmpi .slt (IntOp.andi (IntOp.shrsi .host (w.setWidth 32) 8#32) 3#32)
      (IntOp.andi (IntOp.shrsi .host (w.setWidth 32) 10#32) 3#32) = 1#1) : Ordered w := by
  have hw := w.isLt
  have hm : (w.setWidth 32).msb = false := BitVec.msb_eq_false_iff_two_mul_lt.mpr (by rw [BitVec.toNat_setWidth]; omega)
  have key : ∀ k : ℕ, k < 32 → (IntOp.andi (IntOp.shrsi .host (w.setWidth 32) (BitVec.ofNat 32 k)) 3#32).toNat = w.toNat / 2 ^ k % 4 := by
    intro k hk
    have e : IntOp.shrsi .host (w.setWidth 32) (BitVec.ofNat 32 k) = (w.setWidth 32) >>> k := by
      unfold IntOp.shrsi
      have hk' : (BitVec.ofNat 32 k).toNat = k := by rw [BitVec.toNat_ofNat]; omega
      rw [if_pos (by rw [hk']; exact hk)]
      show (w.setWidth 32).sshiftRight (BitVec.ofNat 32 k).toNat = _
      rw [hk', BitVec.sshiftRight_eq_of_msb_false hm]
    rw [e]
    show (((w.setWidth 32) >>> k) &&& 3#32).toNat = _
    rw [BitVec.toNat_and, BitVec.toNat_ushiftRight, BitVec.toNat_setWidth, Nat.shiftRight_eq_div_pow,
      Nat.mod_eq_of_lt (show w.toNat < 2 ^ 32 by omega)]
    exact Nat.and_two_pow_sub_one_eq_mod (w.toNat / 2 ^ k) 2
  have k8 := key 8 (by omega)
  have k10 := key 10 (by omega)
  rw [StableHlo.Predicate.slt_iff_toNat (by rw [k8]; omega) (by rw [k10]; omega), k8, k10] at h
  exact h

/-- Under `well_packed` every offset is at most 1280, -/
theorem offsets_of_packed [Cert.Pre_well_packed.Facts] {x0 x1 x2 x3 x4} {x5 : IVec Cert.Pre_well_packed.S8 32}
    (h : Cert.Pre_well_packed.fn (F := F) x0 x1 x2 x3 x4 x5 = fun _ => 1#1) (j) : (x5 j).toNat ≤ 1280 := by
  have e := congrFun h (fun i => i.elim0)
  unfold Cert.Pre_well_packed.fn Cert.Pre_well_packed.fn_part1 at e
  have e1 := Host.reduce_andi_all _ _ _ _ _ (and_one e).1 j
  exact word_range (and_one e1).1 (and_one e1).2

/-- and every packed word's positions are in order. -/
theorem ordered_of_packed [Cert.Pre_well_packed.Facts] {x0 x1 x2 x4 x5} {x3 : IVec Cert.Pre_well_packed.S7x384x4096 16}
    (h : Cert.Pre_well_packed.fn (F := F) x0 x1 x2 x3 x4 x5 = fun _ => 1#1) (j) : Ordered (x3 j) := by
  have e := congrFun h (fun i => i.elim0)
  unfold Cert.Pre_well_packed.fn Cert.Pre_well_packed.fn_part1 at e
  exact ordered_of_cmp (Host.reduce_andi_all _ _ _ _ _ (and_one e).2 j)

end Cert.Proof
-- ==== Proof.Weight.lean ====
/- The number a packed word gives at one of its four positions: stated once, and read out of the reference's words of 32 bits
   and out of the kernel's words of 16 bits. -/
module

public import Idealize.ShloMosaic.Lib.Pointwise
public import Idealize.ShloMosaic.Lib.BitcastPair
public import Idealize.ShloMosaic.Lib.StableHlo.Predicate

@[expose] public section

noncomputable section

namespace Cert.Proof

open Idealize.ShloMosaic

/-- The signed value of the four-bit code `n`: `n` below 8, `n - 16` from 8 on. -/
def codeOf (n : ℕ) : EReal := (((if 8 ≤ n then (n : ℤ) - 16 else (n : ℤ) : ℤ) : ℝ) : EReal)

/-- What the packed word `w` holds at position `p` of its four: its first code where its first index (bits 8 and 9) is `p`, plus
    its second code where its second index (bits 10 and 11) is `p`. -/
def weight (w : BitVec 16) (p : ℕ) : EReal :=
  (if w.toNat / 256 % 4 = p then codeOf (w.toNat % 16) else 0) + (if w.toNat / 1024 % 4 = p then codeOf (w.toNat / 16 % 16) else 0)

/-! ## The reference's words -/

/-- A field of a packed word widened to 32 bits and shifted right. -/
theorem field_toNat (w : BitVec 16) (s : BitVec 32) (M : BitVec 32) (b : ℕ) (hs : s.toNat < 32) (hM : M.toNat = 2 ^ b - 1) :
    (IntOp.andi (IntOp.shrsi ArithUnit.host (BitVec.setWidth 32 w) s) M).toNat = w.toNat / 2 ^ s.toNat % 2 ^ b := by
  have hm : (BitVec.setWidth 32 w).msb = false := by
    rw [BitVec.msb_eq_false_iff_two_mul_lt, BitVec.toNat_setWidth]
    have := w.isLt
    omega
  have h1 : IntOp.shrsi ArithUnit.host (BitVec.setWidth 32 w) s = BitVec.sshiftRight (BitVec.setWidth 32 w) s.toNat := by
    unfold IntOp.shrsi
    simp [hs]
  rw [h1, BitVec.sshiftRight_eq_of_msb_false hm]
  show (_ &&& M).toNat = _
  rw [BitVec.toNat_and, hM, Nat.and_two_pow_sub_one_eq_mod, BitVec.toNat_ushiftRight, Nat.shiftRight_eq_div_pow, BitVec.toNat_setWidth,
    Nat.mod_eq_of_lt (a := w.toNat) (by have := w.isLt; omega)]

/-- The low four bits of a packed word widened to 32 bits. -/
theorem low_toNat (w : BitVec 16) : (IntOp.andi (BitVec.setWidth 32 w) 15#32).toNat = w.toNat % 16 := by
  show (_ &&& 15#32).toNat = _
  rw [BitVec.toNat_and, show (15#32).toNat = 2 ^ 4 - 1 from rfl, Nat.and_two_pow_sub_one_eq_mod, BitVec.toNat_setWidth,
    Nat.mod_eq_of_lt (a := w.toNat) (by have := w.isLt; omega)]

/-- A four-bit code made signed and read as a number. -/
theorem signed_code (v : BitVec 32) (h : v.toNat < 16) :
    (FloatOps.sitofp FTy.bf16 (Scalar.select (IntOp.cmpi CmpIPredicate.sge v 8#32) (IntOp.subi v 16#32) v) : Ideal FTy.bf16) = codeOf v.toNat := by
  have : ∀ n : Fin 16, (Scalar.select (IntOp.cmpi CmpIPredicate.sge (BitVec.ofNat 32 n) 8#32) (IntOp.subi (BitVec.ofNat 32 n) 16#32) (BitVec.ofNat 32 n)).toInt
      = if 8 ≤ n.val then (n.val : ℤ) - 16 else (n.val : ℤ) := by decide
  have h2 := this ⟨v.toNat, h⟩
  simp only [BitVec.ofNat_toNat, BitVec.setWidth_eq] at h2
  show (((_ : BitVec 32).toInt : ℝ) : EReal) = _
  rw [h2]
  rfl

/-- A word compared with a position. -/
theorem select_eq (v : BitVec 32) (p : ℕ) (hp : p < 4) (a b : EReal) :
    Scalar.select (IntOp.cmpi CmpIPredicate.eq v (BitVec.ofNat 32 p)) a b = if v.toNat = p then a else b := by
  have hc : IntOp.cmpi CmpIPredicate.eq v (BitVec.ofNat 32 p) = 1#1 ↔ v.toNat = p := by
    show BitVec.ofBool (v == BitVec.ofNat 32 p) = 1#1 ↔ _
    rw [StableHlo.Predicate.ofBool_eq_one_iff, beq_iff_eq, ← BitVec.toNat_inj, BitVec.toNat_ofNat, Nat.mod_eq_of_lt (by omega)]
  show (if _ = 1#1 then a else b) = _
  exact if_congr hc rfl rfl

/-- The reference's entry of a packed word at a position. -/
theorem reference_weight (w : BitVec 16) (p : ℕ) (hp : p < 4) :
    (Scalar.select (IntOp.cmpi CmpIPredicate.eq (IntOp.andi (IntOp.shrsi ArithUnit.host (BitVec.setWidth 32 w) 8#32) 3#32) (BitVec.ofNat 32 p))
        (FloatOps.sitofp (F := Ideal) FTy.bf16 (Scalar.select (IntOp.cmpi CmpIPredicate.sge (IntOp.andi (BitVec.setWidth 32 w) 15#32) 8#32)
          (IntOp.subi (IntOp.andi (BitVec.setWidth 32 w) 15#32) 16#32) (IntOp.andi (BitVec.setWidth 32 w) 15#32)) : EReal) 0
      + Scalar.select (IntOp.cmpi CmpIPredicate.eq (IntOp.andi (IntOp.shrsi ArithUnit.host (BitVec.setWidth 32 w) 10#32) 3#32) (BitVec.ofNat 32 p))
        (FloatOps.sitofp (F := Ideal) FTy.bf16 (Scalar.select (IntOp.cmpi CmpIPredicate.sge (IntOp.andi (IntOp.shrsi ArithUnit.host (BitVec.setWidth 32 w) 4#32) 15#32) 8#32)
          (IntOp.subi (IntOp.andi (IntOp.shrsi ArithUnit.host (BitVec.setWidth 32 w) 4#32) 15#32) 16#32)
          (IntOp.andi (IntOp.shrsi ArithUnit.host (BitVec.setWidth 32 w) 4#32) 15#32)) : EReal) 0) = weight w p := by
  have e8 := field_toNat w 8#32 3#32 2 (by decide) rfl
  have e10 := field_toNat w 10#32 3#32 2 (by decide) rfl
  have e4 := field_toNat w 4#32 15#32 4 (by decide) rfl
  have e0 := low_toNat w
  have c0 := signed_code (IntOp.andi (BitVec.setWidth 32 w) 15#32) (by omega)
  have c4 := signed_code (IntOp.andi (IntOp.shrsi ArithUnit.host (BitVec.setWidth 32 w) 4#32) 15#32) (by rw [e4]; exact Nat.mod_lt _ (by decide))
  rw [select_eq _ p hp, select_eq _ p hp, e8, e10]
  unfold weight
  rw [c0, c4, e0, e4]
  rfl

/-! ## The kernel's words -/

/-- The two 16-bit halves of a pair of words. -/
theorem half_append (a b : BitVec 16) (k : Fin 2) : (a ++ b : BitVec 32).extractLsb' (16 * k.val) 16 = if k = 0 then b else a := by
  apply BitVec.eq_of_getLsbD_eq
  intro i hi
  fin_cases k
  · rw [BitVec.getLsbD_extractLsb', BitVec.getLsbD_append]
    simp [hi]
  · rw [BitVec.getLsbD_extractLsb', BitVec.getLsbD_append]
    simp [hi]

/-- A half of a pair of words shifted right four bits together, in its low four bits. -/
theorem half_shift (a b : BitVec 16) (k : Fin 2) :
    (BitVec.sshiftRight (a ++ b : BitVec 32) 4).extractLsb' (16 * k.val) 16 &&& 15#16 = ((if k = 0 then b else a) >>> 4) &&& 15#16 := by
  apply BitVec.eq_of_getLsbD_eq
  intro i hi
  fin_cases k
  · rw [BitVec.getLsbD_and, BitVec.getLsbD_and, BitVec.getLsbD_extractLsb', BitVec.getLsbD_sshiftRight, BitVec.getLsbD_append]
    interval_cases i <;> simp
  · rw [BitVec.getLsbD_and, BitVec.getLsbD_and, BitVec.getLsbD_extractLsb', BitVec.getLsbD_sshiftRight, BitVec.getLsbD_append]
    interval_cases i <;> simp

/-- A four-bit code put in the low bits of the number 136 with its sign bit turned, less 136, is its signed value. -/
theorem bits_code (v : BitVec 16) (h : v.toNat < 16) :
    (FloatOps.ofBits FTy.bf16 (v ^^^ 0x4308#16) : Ideal FTy.bf16) - FloatOps.ofBits FTy.bf16 0x4308#16 = codeOf v.toNat := by
  have key : ∀ n : Fin 16, (FloatOps.ofBits FTy.bf16 (BitVec.ofNat 16 n ^^^ 0x4308#16) : Ideal FTy.bf16) - FloatOps.ofBits FTy.bf16 0x4308#16 = codeOf n := by
    intro n
    fin_cases n <;> (show Ideal.ofBits FTy.bf16 _ - Ideal.ofBits FTy.bf16 _ = _; simp [Ideal.ofBits, Ideal.ieee, codeOf]; try (rw [← EReal.coe_sub]; norm_num))
  have := key ⟨v.toNat, h⟩
  simpa only [BitVec.ofNat_toNat, BitVec.setWidth_eq] using this

end Cert.Proof

end
-- ==== Proof.Fields.lean ====
/- The kernel's fields of a packed word: the two positions as masks, the two codes as bfloat16 numbers, and what the four selects
   of a position give. -/
module

public import proofs.«01_k».proof.Proof.Weight
public import proofs.«01_k».proof.Proof.Packed

@[expose] public section

noncomputable section

namespace Cert.Proof

open Idealize.ShloMosaic

/-- The bits of the first position, tested. -/
theorem mask_pos0 (w : BitVec 16) (p : ℕ) (hp : p < 4) : (w &&& 0x300#16) = BitVec.ofNat 16 (256 * p) ↔ w.toNat / 256 % 4 = p := by
  have e : w &&& 0x300#16 = (w >>> 8 &&& 3#16) <<< 8 := by
    apply BitVec.eq_of_getLsbD_eq
    intro i hi
    interval_cases i <;> simp
  have h3 : (w >>> 8 &&& 3#16).toNat = w.toNat / 256 % 4 := by
    rw [BitVec.toNat_and, BitVec.toNat_ushiftRight, Nat.shiftRight_eq_div_pow]
    exact Nat.and_two_pow_sub_one_eq_mod _ 2
  rw [e, ← BitVec.toNat_inj, BitVec.toNat_shiftLeft, h3, BitVec.toNat_ofNat, Nat.shiftLeft_eq]
  omega

/-- The bits of the second position, tested. -/
theorem mask_pos1 (w : BitVec 16) (p : ℕ) (hp : p < 4) : (w &&& 0xC00#16) = BitVec.ofNat 16 (1024 * p) ↔ w.toNat / 1024 % 4 = p := by
  have e : w &&& 0xC00#16 = (w >>> 10 &&& 3#16) <<< 10 := by
    apply BitVec.eq_of_getLsbD_eq
    intro i hi
    interval_cases i <;> simp
  have h3 : (w >>> 10 &&& 3#16).toNat = w.toNat / 1024 % 4 := by
    rw [BitVec.toNat_and, BitVec.toNat_ushiftRight, Nat.shiftRight_eq_div_pow]
    exact Nat.and_two_pow_sub_one_eq_mod _ 2
  rw [e, ← BitVec.toNat_inj, BitVec.toNat_shiftLeft, h3, BitVec.toNat_ofNat, Nat.shiftLeft_eq]
  omega

/-- The first code of a packed word as the kernel reads it. -/
theorem code0 (w : BitVec 16) :
    (FloatOps.ofBits FTy.bf16 ((w &&& 15#16) ^^^ 0x4308#16) : Ideal FTy.bf16) - FloatOps.ofBits FTy.bf16 0x4308#16 = codeOf (w.toNat % 16) := by
  have h : (w &&& 15#16).toNat = w.toNat % 16 := by
    rw [BitVec.toNat_and]; exact Nat.and_two_pow_sub_one_eq_mod _ 4
  rw [bits_code _ (by omega), h]

/-- The second code. -/
theorem code1 (w : BitVec 16) :
    (FloatOps.ofBits FTy.bf16 ((w >>> 4 &&& 15#16) ^^^ 0x4308#16) : Ideal FTy.bf16) - FloatOps.ofBits FTy.bf16 0x4308#16 = codeOf (w.toNat / 16 % 16) := by
  have h : (w >>> 4 &&& 15#16).toNat = w.toNat / 16 % 16 := by
    rw [BitVec.toNat_and, BitVec.toNat_ushiftRight, Nat.shiftRight_eq_div_pow]; exact Nat.and_two_pow_sub_one_eq_mod _ 4
  rw [bits_code _ (by omega), h]

/-- A half of the paired words, with the other operations of the kernel on the pair. -/
theorem half_and (x m : BitVec 32) (k : ℕ) : (x &&& m).extractLsb' k 16 = x.extractLsb' k 16 &&& m.extractLsb' k 16 := by
  apply BitVec.eq_of_getLsbD_eq
  intro i hi
  simp [BitVec.getLsbD_extractLsb', hi]

/-- The same of the exclusive or. -/
theorem half_xor (x m : BitVec 32) (k : ℕ) : (x ^^^ m).extractLsb' k 16 = x.extractLsb' k 16 ^^^ m.extractLsb' k 16 := by
  apply BitVec.eq_of_getLsbD_eq
  intro i hi
  simp [BitVec.getLsbD_extractLsb', hi]

/-- Where the positions are in order, the value of position `p` times the scale is what the kernel's selects give. -/
theorem weight_mul (w : BitVec 16) (h : Ordered w) (p : ℕ) (s : EReal) :
    weight w p * s = if w.toNat / 256 % 4 = p then codeOf (w.toNat % 16) * s
      else if w.toNat / 1024 % 4 = p then codeOf (w.toNat / 16 % 16) * s else 0 := by
  unfold Ordered at h
  unfold weight
  by_cases h0 : w.toNat / 256 % 4 = p
  · rw [if_pos h0, if_pos h0, if_neg (by omega), add_zero]
  · rw [if_neg h0, if_neg h0, zero_add]
    by_cases h1 : w.toNat / 1024 % 4 = p
    · rw [if_pos h1, if_pos h1]
    · rw [if_neg h1, if_neg h1, zero_mul]

end Cert.Proof

end
-- ==== Proof.Entry.lean ====
/- What the kernel's dequantised weight and its permuted activations hold at an index, over the extended reals. -/
module

public import proofs.«01_k».proof.Proof.Spec
public import proofs.«01_k».proof.Proof.Fields
public import Idealize.ShloMosaic.Lib.Pointwise.IndexBridge

@[expose] public section

noncomputable section

namespace Cert.Proof

open Cert.KernelIdeal Cert.KernelIdeal.Gen
open Idealize.ShloMosaic Idealize.ShloMosaic.TcCoe

set_option maxRecDepth 16384

/-! ## The packed words in pairs -/

/-- The row and the column that a 16-bit view of the paired words reads. -/
theorem halves_srcIdx (i : Fin 16) (n : Fin 512) (h : S8x512.Bitcasts 32 S16x512 16) (hp) :
    h.srcIdx (ix2 i n) (S16x512.row (ix2 i n) / 2) hp = ix2 ⟨i.val / 2, by omega⟩ n := by
  funext a
  match a with
  | ⟨0, _⟩ => rfl
  | ⟨1, _⟩ => rfl

/-- The rows that a word of the paired words is made of. -/
theorem pairs_srcIdx (i : Fin 8) (n : Fin 512) (h : S16x512.Bitcasts 16 S8x512 32) (k : ℕ) (hk : k < 2) (hp) :
    h.srcIdx (ix2 i n) (2 * S8x512.row (ix2 i n) + k) hp = ix2 ⟨2 * i.val + k, by omega⟩ n := by
  funext a
  match a with
  | ⟨0, _⟩ => rfl
  | ⟨1, _⟩ => rfl

/-- One 32-bit word of the packed rows: the odd row above the even row. -/
theorem pairWords_apply (pk : Vec Ideal S1x16x512 .i16) (i : Fin 8) (n : Fin 512) :
    pairWords pk (ix2 i n) = pk (ix3 0 ⟨2 * i.val + 1, by omega⟩ n) ++ pk (ix3 0 ⟨2 * i.val, by omega⟩ n) := by
  unfold pairWords
  rw [bitcast_16_32, pairs_srcIdx i n _ 1 (by omega)]
  have := pairs_srcIdx i n bitcasts_S16x512_w16_S8x512_w32 0 (by omega)
  simp only [Nat.add_zero] at this
  rw [this]
  congr 1 <;> pointwise

/-- A half of the paired words is the packed word of its row. -/
theorem pairWords_half (pk : Vec Ideal S1x16x512 .i16) (i : Fin 16) (n : Fin 512) :
    (pairWords pk (ix2 ⟨i.val / 2, by omega⟩ n)).extractLsb' (16 * (i.val % 2)) 16 = pk (ix3 0 i n) := by
  have h := half_append (pk (ix3 0 ⟨2 * (i.val / 2) + 1, by omega⟩ n)) (pk (ix3 0 ⟨2 * (i.val / 2), by omega⟩ n)) ⟨i.val % 2, by omega⟩
  rw [pairWords_apply]
  refine h.trans ?_
  rcases Nat.mod_two_eq_zero_or_one i.val with h0 | h0
  · rw [if_pos (Fin.ext h0)]
    exact congrArg (fun k => pk (ix3 0 k n)) (Fin.ext (by show 2 * (i.val / 2) = i.val; omega))
  · rw [if_neg (fun e => absurd (congrArg Fin.val e) (by show ¬ i.val % 2 = 0; omega))]
    exact congrArg (fun k => pk (ix3 0 k n)) (Fin.ext (by show 2 * (i.val / 2) + 1 = i.val; omega))

/-- The same of the words shifted by four bits, in the low four bits. -/
theorem pairWords_shift (pk : Vec Ideal S1x16x512 .i16) (i : Fin 16) (n : Fin 512) :
    (BitVec.sshiftRight (pairWords pk (ix2 ⟨i.val / 2, by omega⟩ n)) 4).extractLsb' (16 * (i.val % 2)) 16 &&& 15#16 = pk (ix3 0 i n) >>> 4 &&& 15#16 := by
  have h := half_shift (pk (ix3 0 ⟨2 * (i.val / 2) + 1, by omega⟩ n)) (pk (ix3 0 ⟨2 * (i.val / 2), by omega⟩ n)) ⟨i.val % 2, by omega⟩
  rw [pairWords_apply]
  refine h.trans ?_
  rcases Nat.mod_two_eq_zero_or_one i.val with h0 | h0
  · rw [if_pos (Fin.ext h0)]
    exact congrArg (fun k => pk (ix3 0 k n) >>> 4 &&& 15#16) (Fin.ext (by show 2 * (i.val / 2) = i.val; omega))
  · rw [if_neg (fun e => absurd (congrArg Fin.val e) (by show ¬ i.val % 2 = 0; omega))]
    exact congrArg (fun k => pk (ix3 0 k n) >>> 4 &&& 15#16) (Fin.ext (by show 2 * (i.val / 2) + 1 = i.val; omega))

/-- A 16-bit view of paired words, read at a row. -/
theorem halves_apply (x : IVec S8x512 32) (i : Fin 16) (n : Fin 512) :
    bitcast S16x512 16 x bitcasts_S8x512_w32_S16x512_w16 (ix2 i n) = (x (ix2 ⟨i.val / 2, by omega⟩ n)).extractLsb' (16 * (i.val % 2)) 16 := by
  rw [bitcast_32_16, halves_srcIdx i n]
  rfl

/-- A constant repeated in both halves of a word. -/
theorem half_const (m : BitVec 32) (v : BitVec 16) (h0 : m.extractLsb' 0 16 = v) (h1 : m.extractLsb' 16 16 = v) (i : Fin 16) :
    m.extractLsb' (16 * (i.val % 2)) 16 = v := by
  rcases Nat.mod_two_eq_zero_or_one i.val with h | h <;> rw [h] <;> assumption

/-- The bits of the first position of a packed word, -/
theorem pos0_apply (pk : Vec Ideal S1x16x512 .i16) (i : Fin 16) (n : Fin 512) : pos0 pk (ix2 i n) = pk (ix3 0 i n) &&& 0x300#16 := by
  unfold pos0
  rw [halves_apply]
  show (pairWords pk _ &&& 50332416#32).extractLsb' _ 16 = _
  rw [half_and, pairWords_half, half_const _ 0x300#16 (by decide) (by decide)]

/-- and of the second. -/
theorem pos1_apply (pk : Vec Ideal S1x16x512 .i16) (i : Fin 16) (n : Fin 512) : pos1 pk (ix2 i n) = pk (ix3 0 i n) &&& 0xC00#16 := by
  unfold pos1
  rw [halves_apply]
  show (pairWords pk _ &&& 201329664#32).extractLsb' _ 16 = _
  rw [half_and, pairWords_half, half_const _ 0xC00#16 (by decide) (by decide)]

/-- A row of scales under every row of a tile. -/
theorem scale_apply (sc : FVec Ideal S1x1x512 .bf16) (i : Fin 16) (n : Fin 512) :
    broadcastTo S16x512 (shapeCast S1x512 sc shapeCasts_S1x1x512_S1x512) broadcasts_S1x512_S16x512 (ix2 i n) = sc (ix3 0 0 n) := by
  pointwise

/-- The first value of a packed word, scaled, -/
theorem val0_apply (pk : Vec Ideal S1x16x512 .i16) (sc : FVec Ideal S1x1x512 .bf16) (i : Fin 16) (n : Fin 512) :
    (val0 pk sc (ix2 i n) : EReal) = codeOf ((pk (ix3 0 i n) : BitVec 16).toNat % 16) * sc (ix3 0 0 n) := by
  unfold val0 nibble
  show ((FloatOps.ofBits (F := Ideal) FTy.bf16 (bitcast S16x512 16 _ _ (ix2 i n)) : Ideal FTy.bf16) - FloatOps.ofBits (F := Ideal) FTy.bf16 0x4308#16 : EReal) * broadcastTo S16x512 _ _ (ix2 i n) = _
  rw [scale_apply, halves_apply]
  refine congrArg (· * (sc (ix3 0 0 n) : EReal)) ?_
  rw [← code0]
  refine congrArg (fun z => ((FloatOps.ofBits (F := Ideal) FTy.bf16 z : Ideal FTy.bf16) - FloatOps.ofBits (F := Ideal) FTy.bf16 0x4308#16 : EReal)) ?_
  show ((pairWords pk _ &&& 983055#32) ^^^ 1124614920#32).extractLsb' _ 16 = _
  rw [half_xor, half_and, pairWords_half, half_const _ 15#16 (by decide) (by decide), half_const _ 0x4308#16 (by decide) (by decide)]

/-- and the second. -/
theorem val1_apply (pk : Vec Ideal S1x16x512 .i16) (sc : FVec Ideal S1x1x512 .bf16) (i : Fin 16) (n : Fin 512) :
    (val1 pk sc (ix2 i n) : EReal) = codeOf ((pk (ix3 0 i n) : BitVec 16).toNat / 16 % 16) * sc (ix3 0 0 n) := by
  unfold val1 nibble
  show ((FloatOps.ofBits (F := Ideal) FTy.bf16 (bitcast S16x512 16 _ _ (ix2 i n)) : Ideal FTy.bf16) - FloatOps.ofBits (F := Ideal) FTy.bf16 0x4308#16 : EReal) * broadcastTo S16x512 _ _ (ix2 i n) = _
  rw [scale_apply, halves_apply]
  refine congrArg (· * (sc (ix3 0 0 n) : EReal)) ?_
  rw [← code1]
  refine congrArg (fun z => ((FloatOps.ofBits (F := Ideal) FTy.bf16 z : Ideal FTy.bf16) - FloatOps.ofBits (F := Ideal) FTy.bf16 0x4308#16 : EReal)) ?_
  show ((BitVec.sshiftRight (pairWords pk _) 4 &&& 983055#32) ^^^ 1124614920#32).extractLsb' _ 16 = _
  rw [half_xor, half_and, half_const 983055#32 15#16 (by decide) (by decide), half_const 1124614920#32 0x4308#16 (by decide) (by decide), pairWords_shift]

/-- A select on an equality of words. -/
theorem select_iff {a b : BitVec 16} {P : Prop} [Decidable P] (h : a = b ↔ P) (x y : EReal) :
    Scalar.select (IntOp.cmpi .eq a b) x y = if P then x else y := by
  show (if _ = 1#1 then x else y) = _
  exact if_congr (StableHlo.Predicate.cmpi_eq_iff.trans h) rfl rfl

/-- Position `p` of a packed word whose positions are in order is its weight there, scaled. -/
theorem tile_apply (pk : Vec Ideal S1x16x512 .i16) (sc : FVec Ideal S1x1x512 .bf16) (i : Fin 16) (n : Fin 512) (p : ℕ) (hp : p < 4)
    (ho : Ordered (pk (ix3 0 i n))) : (tile p pk sc (ix2 i n) : EReal) = weight (pk (ix3 0 i n)) p * sc (ix3 0 0 n) := by
  rw [weight_mul _ ho, ← val0_apply, ← val1_apply]
  have hz : (zeros (F := Ideal) (ix2 i n) : EReal) = 0 := Ideal.ofBits_zero_bf16
  have ho' : (pk (ix3 0 i n) : BitVec 16).toNat / 256 % 4 < (pk (ix3 0 i n) : BitVec 16).toNat / 1024 % 4 := ho
  have s0 : ∀ (q : ℕ) (hq : q < 4) (x y : EReal), Scalar.select (IntOp.cmpi .eq (pos0 pk (ix2 i n)) (BitVec.ofNat 16 (256 * q))) x y
      = if (pk (ix3 0 i n) : BitVec 16).toNat / 256 % 4 = q then x else y := fun q hq x y => select_iff (by rw [pos0_apply]; exact mask_pos0 _ q hq) x y
  have s1 : ∀ (q : ℕ) (hq : q < 4) (x y : EReal), Scalar.select (IntOp.cmpi .eq (pos1 pk (ix2 i n)) (BitVec.ofNat 16 (1024 * q))) x y
      = if (pk (ix3 0 i n) : BitVec 16).toNat / 1024 % 4 = q then x else y := fun q hq x y => select_iff (by rw [pos1_apply]; exact mask_pos1 _ q hq) x y
  interval_cases p
  · refine (s0 0 (by omega) _ _).trans ?_
    rw [hz]
    refine if_congr Iff.rfl rfl ?_
    rw [if_neg (by omega)]
  · refine (s0 1 (by omega) _ _).trans (if_congr Iff.rfl rfl ((s1 1 (by omega) _ _).trans ?_))
    rw [hz]
  · refine (s0 2 (by omega) _ _).trans (if_congr Iff.rfl rfl ((s1 2 (by omega) _ _).trans ?_))
    rw [hz]
  · refine (s1 3 (by omega) _ _).trans ?_
    rw [hz, if_neg (show ¬ (pk (ix3 0 i n) : BitVec 16).toNat / 256 % 4 = 3 by omega)]

/-- The dequantised weight of a tenant at row `y`: the weight of packed row `16 (y / 64) + y mod 16` at position `y / 16 mod 4`,
    times the scale of the group of 128 that the row is in. -/
theorem dequant_entry (pk : Vec Ideal S7x384x512 .i16) (sc : FVec Ideal S7x12x512 .bf16) (ho : ∀ j, Ordered (pk j)) (g : Fin 7) (y : Fin 1536) (n : Fin 512) :
    (dequant pk sc g (ix2 y n) : EReal)
      = weight (pk (ix3 g ⟨16 * (y.val / 64) + y.val % 16, by omega⟩ n)) (y.val / 16 % 4) * sc (ix3 g ⟨y.val / 128, by omega⟩ n) := by
  have hy := y.isLt
  show (tile (y.val / 16 % 4) (packedRows pk g (y.val / 64)) (scaleRow sc g (y.val / 128)) (ValueIdx.ix2 (Fin.ofNat 16 y.val) n) : EReal) = _
  rw [← ix2_eq_valueIdx]
  refine (tile_apply _ _ _ _ _ (Nat.mod_lt _ (by decide)) (ho _)).trans ?_
  show weight (pk (ValueIdx.ix3 g (Fin.ofNat 384 (16 * (y.val / 64) + (Fin.ofNat 16 y.val).val)) n)) _ * (sc (ValueIdx.ix3 g (Fin.ofNat 12 (y.val / 128)) n) : EReal) = _
  rw [← ix3_eq_valueIdx, ← ix3_eq_valueIdx]
  have e1 : (Fin.ofNat 384 (16 * (y.val / 64) + (Fin.ofNat 16 y.val).val) : Fin 384) = ⟨16 * (y.val / 64) + y.val % 16, by omega⟩ :=
    Fin.ext (Nat.mod_eq_of_lt (show 16 * (y.val / 64) + y.val % 16 < 384 by omega))
  have e2 : (Fin.ofNat 12 (y.val / 128) : Fin 12) = ⟨y.val / 128, by omega⟩ := Fin.ext (Nat.mod_eq_of_lt (by omega))
  rw [e1, e2]

/-! ## The permuted activations -/

/-- The lane that lane `l` of a permuted tile takes. -/
def lane (l : Fin 128) : Fin 128 := ⟨l.val / 64 * 64 + l.val % 16 * 4 + l.val / 16 % 4, by omega⟩

/-- The word that the kernel computes for a lane. -/
theorem lane_word : ∀ l : Fin 128, (Scalar.select
    (IntOp.cmpi CmpIPredicate.slt
      (IntOp.ori (IntOp.ori (IntOp.andi (BitVec.ofNat 32 l) 64#32) (IntOp.shli ArithUnit.vector (IntOp.andi (BitVec.ofNat 32 l) 15#32) 2#32))
        (IntOp.andi (IntOp.shrsi ArithUnit.vector (BitVec.ofNat 32 l) 4#32) 3#32)) 0#32)
    (IntOp.addi
      (IntOp.ori (IntOp.ori (IntOp.andi (BitVec.ofNat 32 l) 64#32) (IntOp.shli ArithUnit.vector (IntOp.andi (BitVec.ofNat 32 l) 15#32) 2#32))
        (IntOp.andi (IntOp.shrsi ArithUnit.vector (BitVec.ofNat 32 l) 4#32) 3#32)) 128#32)
    (IntOp.ori (IntOp.ori (IntOp.andi (BitVec.ofNat 32 l) 64#32) (IntOp.shli ArithUnit.vector (IntOp.andi (BitVec.ofNat 32 l) 15#32) 2#32))
      (IntOp.andi (IntOp.shrsi ArithUnit.vector (BitVec.ofNat 32 l) 4#32) 3#32))).toNat % 128 = (lane l).val := by
  decide +kernel

/-- One permuted tile. -/
theorem pay8_apply (x : FVec Ideal S16x128 .bf16) (r : Fin 16) (l : Fin 128) : (k0_pay8 (F := Ideal) x (ix2 r l) : EReal) = x (ix2 r (lane l)) := by
  pointwise [k0_pay8]
  exact congrArg (fun k => x (ix2 r k)) (Fin.ext (lane_word l))

/-- The column of the activations that column `y` of the permuted activations takes. -/
def column (y : Fin 1536) : Fin 1536 := ⟨y.val / 64 * 64 + y.val % 16 * 4 + y.val / 16 % 4, by omega⟩

/-- The permuted activations in a row of a token. -/
theorem xpad_entry (x : FVec Ideal S1280x1536 .bf16) (r : Fin 1408) (hr : r.val < 1280) (y : Fin 1536) :
    (xpad x (ix2 r y) : EReal) = x (ix2 ⟨r.val, hr⟩ (column y)) := by
  have hy := y.isLt
  refine (if_pos (show ((ix2 r y : S1408x1536.Idx) 0).val < 1280 from hr)).trans ?_
  rw [← ix2_eq_valueIdx]
  refine (pay8_apply _ (Fin.ofNat 16 r.val) (Fin.ofNat 128 y.val)).trans ?_
  show (x (ValueIdx.ix2 (Fin.ofNat 1280 (r.val / 16 * 16 + (Fin.ofNat 16 r.val).val)) (Fin.ofNat 1536 (y.val / 128 * 128 + (lane (Fin.ofNat 128 y.val)).val))) : EReal) = _
  rw [← ix2_eq_valueIdx]
  have e1 : (Fin.ofNat 1280 (r.val / 16 * 16 + (Fin.ofNat 16 r.val).val) : Fin 1280) = ⟨r.val, hr⟩ :=
    Fin.ext (by show (r.val / 16 * 16 + r.val % 16) % 1280 = r.val; omega)
  have e2 : (Fin.ofNat 1536 (y.val / 128 * 128 + (lane (Fin.ofNat 128 y.val)).val) : Fin 1536) = column y :=
    Fin.ext (by
      show (y.val / 128 * 128 + (y.val % 128 / 64 * 64 + y.val % 128 % 16 * 4 + y.val % 128 / 16 % 4)) % 1536 = y.val / 64 * 64 + y.val % 16 * 4 + y.val / 16 % 4
      have a1 : y.val % 128 / 64 = y.val / 64 % 2 := by omega
      have a2 : y.val % 128 % 16 = y.val % 16 := by omega
      have a3 : y.val % 128 / 16 % 4 = y.val / 16 % 4 := by omega
      have a4 : y.val / 128 * 128 + y.val / 64 % 2 * 64 = y.val / 64 * 64 := by omega
      rw [a1, a2, a3]
      omega)
  rw [e1, e2]

end Cert.Proof

end
-- ==== Proof.Rows.lean ====
/- What the kernel's accumulator holds over the extended reals, in the rows of the tokens: the scaled base product and, for each
   tenant that owns the row, the product of the row with the tenant's weight. -/
module

public import proofs.«01_k».proof.Proof.Words
public import proofs.«01_k».proof.Proof.Entry

@[expose] public section

noncomputable section

namespace Cert.Proof

open Cert.KernelIdeal Cert.KernelIdeal.Gen
open Idealize.ShloMosaic Idealize.ShloMosaic.TcCoe

set_option maxRecDepth 16384

/-- Row `r` is one of the rows from `lo` up to `hi`. -/
abbrev Owned (lo hi : BitVec 32) (r : ℕ) : Prop := lo.toNat ≤ r ∧ r < hi.toNat

/-- A row of the permuted activations times a column of a weight. -/
def dot (xp : FVec Ideal S1408x1536 .bf16) (dw : FVec Ideal S1536x512 .bf16) (r : Fin 1408) (n : Fin 512) : EReal :=
  ∑ k : Fin 1536, (xp (ix2 r k) : EReal) * dw (ix2 k n)

variable {lo hi : BitVec 32}

/-- The two compares of a row with a tenant's offsets. -/
theorem owned_word (hl : lo.toNat ≤ 1280) (hh : hi.toNat ≤ 1280) (v : BitVec 32) (hv : v.toNat < 2 ^ 31) (a b : EReal) :
    Scalar.select (IntOp.andi (IntOp.cmpi .sge v lo) (IntOp.cmpi .slt v hi)) a b = if Owned lo hi v.toNat then a else b := by
  have h1 : IntOp.cmpi .sge v lo = 1#1 ↔ lo.toNat ≤ v.toNat := StableHlo.Predicate.sge_iff_toNat hv (by omega)
  have h2 : IntOp.cmpi .slt v hi = 1#1 ↔ v.toNat < hi.toNat := StableHlo.Predicate.slt_iff_toNat hv (by omega)
  show (if _ = 1#1 then a else b) = _
  refine if_congr ⟨fun h => ⟨h1.mp (and_one h).1, h2.mp (and_one h).2⟩, fun h => ?_⟩ rfl rfl
  rw [h1.mpr h.1, h2.mpr h.2]
  rfl

/-- What chunk `k` adds in its row `j`. -/
theorem chunkAdd_apply (hl : lo.toNat ≤ 1280) (hh : hi.toNat ≤ 1280) (k : ℕ) (hk : k ≤ 100) (rows : FVec Ideal S128x1536 .bf16)
    (dw : FVec Ideal S1536x512 .bf16) (j : Fin 128) (n : Fin 512) :
    (chunkAdd lo hi k rows dw (ix2 j n) : EReal)
      = if Owned lo hi (lo.toNat / 16 * 16 + 128 * k + j.val) then ∑ q : Fin 1536, (rows (ix2 j q) : EReal) * dw (ix2 q n) else 0 := by
  have hj := j.isLt
  have hw : (IntOp.addi (chunkWord lo k) (BitVec.ofNat 32 j)).toNat = lo.toNat / 16 * 16 + 128 * k + j.val := by
    show (chunkWord lo k + BitVec.ofNat 32 j).toNat = _
    rw [BitVec.toNat_add, chunkWord_toNat hl k hk, BitVec.toNat_ofNat]
    omega
  unfold chunkAdd
  pointwise
  rw [owned_word hl hh _ (by rw [hw]; omega), hw]

/-- The accumulator in row `r` after the chunks before `N`. -/
theorem chunks_apply (hl : lo.toNat ≤ 1280) (hh : hi.toNat ≤ 1280) (xp : FVec Ideal S1408x1536 .bf16) (dw : FVec Ideal S1536x512 .bf16)
    (acc : FVec Ideal S1408x512 .f32) (r : Fin 1408) (n : Fin 512) (N : ℕ) (hN : N ≤ 100) :
    (chunks xp dw lo hi acc N (ix2 r n) : EReal)
      = acc (ix2 r n) + if Owned lo hi r.val ∧ r.val < lo.toNat / 16 * 16 + 128 * N then dot xp dw r n else 0 := by
  induction N with
  | zero =>
    rw [if_neg (by rintro ⟨⟨h1, -⟩, h2⟩; omega), add_zero]
    rfl
  | succ N ih =>
    have ih := ih (by omega)
    have hs := chunkWord_toNat hl N (by omega)
    show (chunkStep xp dw lo hi N (chunks xp dw lo hi acc N) (ix2 r n) : EReal) = _
    unfold chunkStep
    rw [hs]
    by_cases h : lo.toNat / 16 * 16 + 128 * N ≤ r.val ∧ r.val < lo.toNat / 16 * 16 + 128 * N + 128
    · refine (if_pos h).trans ?_
      rw [if_neg (by rintro ⟨-, h2⟩; omega), add_zero] at ih
      have hj : (Fin.ofNat 128 (r.val - (lo.toNat / 16 * 16 + 128 * N))).val = r.val - (lo.toNat / 16 * 16 + 128 * N) := Nat.mod_eq_of_lt (by omega)
      have hrow : (Fin.ofNat 1408 (lo.toNat / 16 * 16 + 128 * N + (Fin.ofNat 128 (r.val - (lo.toNat / 16 * 16 + 128 * N))).val) : Fin 1408) = r := by
        refine Fin.ext ?_
        rw [hj]
        show _ % 1408 = _
        have := r.isLt
        omega
      show (chunks xp dw lo hi acc N (ix2 r n) : EReal)
        + chunkAdd lo hi N (rowsFrom xp (lo.toNat / 16 * 16 + 128 * N)) dw (ValueIdx.ix2 (Fin.ofNat 128 (r.val - (lo.toNat / 16 * 16 + 128 * N))) n) = _
      rw [ih, ← ix2_eq_valueIdx, chunkAdd_apply hl hh N (by omega), hj]
      refine congrArg ((acc (ix2 r n) : EReal) + ·) ?_
      refine if_congr ⟨fun h' => ⟨⟨by omega, by omega⟩, by omega⟩, fun h' => ⟨by omega, by omega⟩⟩ ?_ rfl
      unfold dot
      refine Finset.sum_congr rfl fun q _ => congrArg (· * (dw (ix2 q n) : EReal)) ?_
      show (xp (ValueIdx.ix2 (Fin.ofNat 1408 (lo.toNat / 16 * 16 + 128 * N + (Fin.ofNat 128 (r.val - (lo.toNat / 16 * 16 + 128 * N))).val)) q) : EReal) = _
      rw [hrow, ← ix2_eq_valueIdx]
    · refine (if_neg h).trans ?_
      rw [ih]
      refine congrArg ((acc (ix2 r n) : EReal) + ·) (if_congr ?_ rfl rfl)
      constructor
      · rintro ⟨h1, h2⟩; exact ⟨h1, by omega⟩
      · rintro ⟨h1, h2⟩; exact ⟨h1, by have := h1.1; omega⟩

/-- The accumulator in row `r` after a tenant. -/
theorem tenantStep_apply (hl : lo.toNat ≤ 1280) (hh : hi.toNat ≤ 1280) (xp : FVec Ideal S1408x1536 .bf16) (dw : FVec Ideal S1536x512 .bf16)
    (acc : FVec Ideal S1408x512 .f32) (r : Fin 1408) (n : Fin 512) :
    (tenantStep xp dw lo hi acc (ix2 r n) : EReal) = acc (ix2 r n) + if Owned lo hi r.val then dot xp dw r n else 0 := by
  unfold tenantStep
  by_cases h : lo.toNat < hi.toNat
  · have hn : nChunks lo hi = (hi.toNat - lo.toNat / 16 * 16 + 127) / 128 := rfl
    rw [if_pos ((cond2_iff hl hh).mpr h), trips_t3 hl hh h, chunks_apply hl hh _ _ _ _ _ _ (by omega)]
    refine congrArg ((acc (ix2 r n) : EReal) + ·) (if_congr ⟨fun h' => h'.1, fun h' => ⟨h', ?_⟩⟩ rfl rfl)
    have := h'.2
    omega
  · rw [if_neg (fun h' => h ((cond2_iff hl hh).mp h')), if_neg (by rintro ⟨h1, h2⟩; omega), add_zero]

/-- The accumulator in row `r` after the tenants before `G`. -/
theorem tenants_apply (tbl : Vec Ideal S8 .i32) (hT : ∀ j, (tbl j : BitVec 32).toNat ≤ 1280) (xp : FVec Ideal S1408x1536 .bf16) (pk : Vec Ideal S7x384x512 .i16)
    (sc : FVec Ideal S7x12x512 .bf16) (acc : FVec Ideal S1408x512 .f32) (r : Fin 1408) (n : Fin 512) (G : ℕ) :
    (tenants tbl xp pk sc acc G (ix2 r n) : EReal) = acc (ix2 r n)
      + ∑ g ∈ Finset.range G, if Owned (tbl (ix1 (Fin.ofNat 8 g))) (tbl (ix1 (Fin.ofNat 8 (g + 1)))) r.val then dot xp (dequant pk sc (Fin.ofNat 7 g)) r n else 0 := by
  induction G with
  | zero => rw [Finset.range_zero, Finset.sum_empty, add_zero]; rfl
  | succ G ih =>
    rw [Finset.sum_range_succ, ← add_assoc, ← ih]
    rw [ix1_eq_valueIdx, ix1_eq_valueIdx]
    exact tenantStep_apply (hT _) (hT _) _ _ _ _ _

/-- The columns of the permuted activations are the columns of the activations in another order. -/
theorem column_bijective : Function.Bijective column := by
  refine Finite.injective_iff_bijective.mp fun a b h => Fin.ext ?_
  have h' : a.val / 64 * 64 + a.val % 16 * 4 + a.val / 16 % 4 = b.val / 64 * 64 + b.val % 16 * 4 + b.val / 16 % 4 := congrArg Fin.val h
  omega

/-- Row `k` of the weight that tenant `g`'s packed words stand for: the value of word `k / 4` at position `k mod 4`, times the
    scale of the group of 128 rows. -/
def deltaRow (pk : Vec Ideal S7x384x512 .i16) (sc : FVec Ideal S7x12x512 .bf16) (g : Fin 7) (k : Fin 1536) (n : Fin 512) : EReal :=
  weight (pk (ix3 g ⟨k.val / 4, by omega⟩ n)) (k.val % 4) * sc (ix3 g ⟨k.val / 128, by omega⟩ n)

/-- The permuted row times the dequantised weight is the row times the tenant's weight. -/
theorem dot_dequant (x : FVec Ideal S1280x1536 .bf16) (pk : Vec Ideal S7x384x512 .i16) (sc : FVec Ideal S7x12x512 .bf16) (ho : ∀ j, Ordered (pk j))
    (g : Fin 7) (r : Fin 1408) (hr : r.val < 1280) (n : Fin 512) :
    dot (xpad x) (dequant pk sc g) r n = ∑ k : Fin 1536, (x (ix2 ⟨r.val, hr⟩ k) : EReal) * deltaRow pk sc g k n := by
  unfold dot
  refine Fintype.sum_bijective column column_bijective _ _ fun k => ?_
  have hk := k.isLt
  rw [xpad_entry x r hr, dequant_entry pk sc ho]
  unfold deltaRow
  have e1 : (⟨(column k).val / 4, by omega⟩ : Fin 384) = ⟨16 * (k.val / 64) + k.val % 16, by omega⟩ :=
    Fin.ext (by show (k.val / 64 * 64 + k.val % 16 * 4 + k.val / 16 % 4) / 4 = 16 * (k.val / 64) + k.val % 16; omega)
  have e2 : (column k).val % 4 = k.val / 16 % 4 := by
    show (k.val / 64 * 64 + k.val % 16 * 4 + k.val / 16 % 4) % 4 = k.val / 16 % 4; omega
  have e3 : (⟨(column k).val / 128, by omega⟩ : Fin 12) = ⟨k.val / 128, by omega⟩ :=
    Fin.ext (by
      show (k.val / 64 * 64 + k.val % 16 * 4 + k.val / 16 % 4) / 128 = k.val / 128
      have a1 : k.val / 64 / 2 = k.val / 128 := by omega
      have a2 : (k.val / 64 * 64 + k.val % 16 * 4 + k.val / 16 % 4) / 64 = k.val / 64 := by omega
      omega)
  rw [e1, e2, e3]

/-- The base product of a row, scaled. -/
theorem base_apply (x : FVec Ideal S1280x1536 .bf16) (w : FVec Ideal S1536x512 .fp8e4m3) (bs : FVec Ideal S1x512 .f32) (r : Fin 1280) (n : Fin 512) :
    (k0_pay3 (F := Ideal) x w bs (ix2 r n) : EReal) = (∑ k : Fin 1536, (x (ix2 r k) : EReal) * w (ix2 k n)) * bs (ix2 0 n) := by
  pointwise [k0_pay3]

/-- The result block of one grid point at an index. -/
theorem outBlock_apply (tbl : Vec Ideal S8 .i32) (hT : ∀ j, (tbl j : BitVec 32).toNat ≤ 1280) (x : FVec Ideal S1280x1536 .bf16) (w : FVec Ideal S1536x512 .fp8e4m3)
    (bs : FVec Ideal S1x512 .f32) (pk : Vec Ideal S7x384x512 .i16) (sc : FVec Ideal S7x12x512 .bf16) (ho : ∀ j, Ordered (pk j)) (r : Fin 1280) (n : Fin 512) :
    (outBlock tbl x w bs pk sc (ix2 r n) : EReal) = (∑ k : Fin 1536, (x (ix2 r k) : EReal) * w (ix2 k n)) * bs (ix2 0 n)
      + ∑ g : Fin 7, if Owned (tbl (ix1 g.castSucc)) (tbl (ix1 g.succ)) r.val then ∑ k : Fin 1536, (x (ix2 r k) : EReal) * deltaRow pk sc g k n else 0 := by
  have hr := r.isLt
  show (tenants tbl (xpad x) pk sc (baseAcc x w bs) 7 (ValueIdx.ix2 (Fin.ofNat 1408 r.val) n) : EReal) = _
  have hm : (Fin.ofNat 1408 r.val : Fin 1408) = ⟨r.val, by omega⟩ := Fin.ext (Nat.mod_eq_of_lt (by omega))
  rw [← ix2_eq_valueIdx, tenants_apply tbl hT, hm]
  congr 1
  · show (k0_pay3 (F := Ideal) x w bs (ValueIdx.ix2 (Fin.ofNat 1280 r.val) n) : EReal) = _
    have hm' : (Fin.ofNat 1280 r.val : Fin 1280) = r := Fin.ext (Nat.mod_eq_of_lt hr)
    rw [← ix2_eq_valueIdx, hm', base_apply]
  · rw [Finset.sum_range]
    refine Finset.sum_congr rfl fun g _ => ?_
    have hg := g.isLt
    have g1 : (Fin.ofNat 8 g.val : Fin 8) = g.castSucc := Fin.ext (Nat.mod_eq_of_lt (by omega))
    have g2 : (Fin.ofNat 8 (g.val + 1) : Fin 8) = g.succ := Fin.ext (Nat.mod_eq_of_lt (by omega))
    have g3 : (Fin.ofNat 7 g.val : Fin 7) = g := Fin.ext (Nat.mod_eq_of_lt hg)
    rw [g1, g2, g3, dot_dequant x pk sc ho g _ hr]

end Cert.Proof

end
-- ==== Proof.Array.lean ====
/- The array the kernel leaves over the extended reals, at an index: the eight result blocks side by side. -/
module

public import proofs.«01_k».proof.Proof.Frame
public import proofs.«01_k».proof.Proof.Rows
public import Idealize.ShloMosaic.Lib.Pointwise
public import Idealize.ShloMosaic.Lib.StableHlo.ReadAt

@[expose] public section

noncomputable section

namespace Cert.Proof

open Cert.KernelIdeal Cert.KernelIdeal.Gen
open Idealize.ShloMosaic Idealize.ShloMosaic.TcCoe Idealize.SL.Sem
open Idealize.ShloMosaic.Pipeline (Dat)

set_option maxRecDepth 65536

/-- Column `j` of grid point `t`'s block, in the whole array. -/
def col (t : Fin grid0.N) (j : Fin 512) : Fin 4096 := ⟨t.val * 512 + j.val, by have := lt_of_lt_of_eq t.isLt N_0; omega⟩

theorem place1 : ∀ t : Fin grid0.N, cc0_transform_1 (grid0.coords t) 1 = t.val := by decide +kernel
theorem place2 : ∀ t : Fin grid0.N, cc0_transform_2 (grid0.coords t) 1 = t.val := by decide +kernel
theorem place3 : ∀ t : Fin grid0.N, cc0_transform_3 (grid0.coords t) 2 = t.val := by decide +kernel
theorem place4 : ∀ t : Fin grid0.N, cc0_transform_4 (grid0.coords t) 2 = t.val := by decide +kernel
theorem place5 : ∀ t : Fin grid0.N, cc0_transform_5 (grid0.coords t) 1 = t.val := by decide +kernel

/-- An offset of whole blocks and an index in the block make the column. -/
theorem col_eq (t : Fin grid0.N) (j : Fin 512) (o : ℕ) (h : o = t.val) : o * 512 + 1 * j.val = (col t j).val := by
  subst h; rw [Nat.one_mul]; rfl

variable (m : (ℓ : Loc nD τ sig) → Buf (Elt Ideal) ℓ)

theorem iblk1_apply (c : Dev nD) (t : Fin grid0.N) (k : Fin 1536) (j : Fin 512) :
    (iblk m c 1 t : FVec Ideal S1536x512 .fp8e4m3) (ix2 k j) = m (c, Proc.tc.devRef main_arg1) (ix2 k (col t j)) := by
  refine Eq.trans ?_ (congrFun (V_main_arg1 m c) (ix2 k (col t j)))
  refine congrArg (V m c main_arg1) (funext fun a => ?_)
  match a with
  | ⟨0, _⟩ => exact Fin.ext ((congrArg (_ + ·) (Nat.one_mul _)).trans (Nat.zero_add _))
  | ⟨1, _⟩ => exact Fin.ext (col_eq t j _ (place1 t))

theorem iblk2_apply (c : Dev nD) (t : Fin grid0.N) (j : Fin 512) :
    (iblk m c 2 t : FVec Ideal S1x512 .f32) (ix2 0 j) = V m c main_v1 (ix2 0 (col t j)) := by
  refine congrArg (V m c main_v1) (funext fun a => ?_)
  match a with
  | ⟨0, _⟩ => exact Fin.ext ((congrArg (_ + ·) (Nat.one_mul _)).trans (Nat.zero_add _))
  | ⟨1, _⟩ => exact Fin.ext (col_eq t j _ (place2 t))

theorem iblk3_apply (c : Dev nD) (t : Fin grid0.N) (g : Fin 7) (k : Fin 384) (j : Fin 512) :
    (iblk m c 3 t : IVec S7x384x512 16) (ix3 g k j) = m (c, Proc.tc.devRef main_arg3) (ix3 g k (col t j)) := by
  refine Eq.trans ?_ (congrFun (V_main_arg3 m c) (ix3 g k (col t j)))
  refine congrArg (V m c main_arg3) (funext fun a => ?_)
  match a with
  | ⟨0, _⟩ => exact Fin.ext ((congrArg (_ + ·) (Nat.one_mul _)).trans (Nat.zero_add _))
  | ⟨1, _⟩ => exact Fin.ext ((congrArg (_ + ·) (Nat.one_mul _)).trans (Nat.zero_add _))
  | ⟨2, _⟩ => exact Fin.ext (col_eq t j _ (place3 t))

theorem iblk4_apply (c : Dev nD) (t : Fin grid0.N) (g : Fin 7) (k : Fin 12) (j : Fin 512) :
    (iblk m c 4 t : FVec Ideal S7x12x512 .bf16) (ix3 g k j) = m (c, Proc.tc.devRef main_arg4) (ix3 g k (col t j)) := by
  refine Eq.trans ?_ (congrFun (V_main_arg4 m c) (ix3 g k (col t j)))
  refine congrArg (V m c main_arg4) (funext fun a => ?_)
  match a with
  | ⟨0, _⟩ => exact Fin.ext ((congrArg (_ + ·) (Nat.one_mul _)).trans (Nat.zero_add _))
  | ⟨1, _⟩ => exact Fin.ext ((congrArg (_ + ·) (Nat.one_mul _)).trans (Nat.zero_add _))
  | ⟨2, _⟩ => exact Fin.ext (col_eq t j _ (place4 t))

theorem ordered_block (c : Dev nD) (ho : ∀ j, Ordered (m (c, Proc.tc.devRef main_arg3) j)) (t : Fin grid0.N) (j : S7x384x512.Idx) :
    Ordered ((iblk m c 3 t : IVec S7x384x512 16) j) := by
  have h : ∀ i, Ordered (V m c main_arg3 i) := fun i => by rw [V_main_arg3]; exact ho i
  exact h _

theorem actv_apply (c : Dev nD) (r : Fin 1280) (k : Fin 1536) :
    actv m c (ix2 r k) = m (c, Proc.tc.devRef main_arg0) (ix3 ⟨r.val / 128, by omega⟩ ⟨r.val % 128, by omega⟩ k) := by
  unfold actv V
  after_reads_at

theorem scale_row (c : Dev nD) (n : Fin 4096) : V m c main_v1 (ix2 0 n) = m (c, Proc.tc.devRef main_arg2) (ix1 n) := by
  unfold V
  after_reads_at

theorem flushed_all : ∀ t : Fin grid0.N, Pipeline.Window.flushOf grid0 true cc0_transform_5 t = true := by decide +kernel

/-- Every point writes its block back. -/
theorem flush5 (t : Fin (cfgA m).N) : ((cfgA m).win 5).flush t = true := flushed_all t

/-- Two points' result blocks share no index. -/
theorem disjoint5 : ∀ t t' : Fin (cfgA m).N, ((cfgA m).win 5).flush t = true → ((cfgA m).win 5).flush t' = true → t ≠ t' →
    Disjoint (((cfgA m).win 5).blk t).view.set (((cfgA m).win 5).blk t').view.set :=
  fun t t' _ _ hne => ((cfgA m).win 5).disjoint_blk (hk := rfl) fun h =>
    hne (Fin.ext ((place5 t).symm.trans ((congrFun h (⟨1, Nat.lt_add_one 1⟩ : Fin 2)).trans (place5 t'))))

/-- Where an index of point `t`'s result block lies in the array. -/
theorem emb5 (t : Fin (cfgA m).N) (r : Fin 1280) (j : Fin 512) :
    (((cfgA m).win 5).blk t).view.emb (ix2 r j) = (ix2 r (col t j) : S1280x4096.Idx) := by
  refine funext fun a => ?_
  match a with
  | ⟨0, _⟩ => exact Fin.ext ((congrArg (_ + ·) (Nat.one_mul _)).trans (Nat.zero_add _))
  | ⟨1, _⟩ => exact Fin.ext (col_eq t j _ (place5 t))

theorem flushed5 (c : Dev nD) (t : Fin (cfgA m).N) (y : S1280x512.Idx) :
    (dats m 0 c).flushed 5 t y = outBlock (offs m) (actv m c) (iblk m c 1 t) (iblk m c 2 t) (iblk m c 3 t) (iblk m c 4 t) y := by
  unfold Dat.flushed
  rw [after0_5]
  rfl

/-- The array the kernel leaves is, in point `t`'s columns, the block that point computed. -/
theorem array_apply (c : Dev nD) (r : Fin 1280) (t : Fin (cfgA m).N) (j : Fin 512) :
    (dats m 0 c).arrAt 5 (cfgA m).N (ix2 r (col t j))
      = outBlock (offs m) (actv m c) (iblk m c 1 t) (iblk m c 2 t) (iblk m c 3 t) (iblk m c 4 t) (ix2 r j) := by
  have h := (dats m 0 c).arrAt_emb_eq_flushed 5 (disjoint5 m) t (flush5 m t) (ix2 r j)
  rw [emb5, flushed5] at h
  exact h

end Cert.Proof

end
-- ==== Proof.RefDelta.lean ====
/- The arrays that the host operations of the reference leave before its last call, over the extended reals. -/
module

public import proofs.«01_k».proof.Proof.Gen.ReferenceIdeal.Value
public import proofs.«01_k».proof.Proof.Gen.ReferenceIdeal.Frame
public import proofs.«01_k».proof.Proof.Rows
public import Idealize.ShloMosaic.Lib.Pointwise
public import Idealize.ShloMosaic.Lib.StableHlo.ReadAt
import all proofs.«01_k».proof.Proof.Gen.ReferenceIdeal.Frame

@[expose] public section

noncomputable section

namespace Cert.Proof.Ref

open Cert.ReferenceIdeal Cert.ReferenceIdeal.Gen
open Idealize.ShloMosaic Idealize.ShloMosaic.TcCoe Idealize.SL.Sem
open Cert.Proof

set_option maxRecDepth 65536

/-- The activation at row `r` of the batch and column `k`. -/
abbrev rowAt (x : FVec Ideal S10x128x1536 .bf16) (r : Fin 1280) (k : Fin 1536) : EReal :=
  x (ix3 ⟨r.val / 128, by omega⟩ ⟨r.val % 128, by omega⟩ k)

/-- What the tenants add at row `r` and column `n`: for each tenant that owns the row, the row times its weight. -/
def delta (x : FVec Ideal S10x128x1536 .bf16) (pk : IVec S7x384x4096 16) (sc : FVec Ideal S7x12x4096 .bf16) (t : IVec S8 32)
    (r : Fin 1280) (n : Fin 4096) : EReal :=
  ∑ g : Fin 7, if Owned (t (ix1 g.castSucc)) (t (ix1 g.succ)) r.val then
    ∑ k : Fin 1536, rowAt x r k * (weight (pk (ix3 g ⟨k.val / 4, by omega⟩ n)) (k.val % 4) * sc (ix3 g ⟨k.val / 128, by omega⟩ n)) else 0

/-- One tenant's term: the compares of the row with the offsets choose the product or the zero. -/
theorem term_eq (t : IVec S8 32) (hT : ∀ j, (t j).toNat ≤ 1280) (r : Fin 1280) (g : Fin 7) (A B z : EReal) (hz : z = 0) (hAB : A = B) :
    Scalar.select (IntOp.andi (IntOp.cmpi CmpIPredicate.sge (BitVec.ofNat 32 r.val) (t (ix1 ⟨g.val, by omega⟩)))
        (IntOp.cmpi CmpIPredicate.slt (BitVec.ofNat 32 r.val) (t (ix1 ⟨1 + g.val, by omega⟩)))) A z
      = if Owned (t (ix1 g.castSucc)) (t (ix1 g.succ)) r.val then B else 0 := by
  subst hz hAB
  have hr := r.isLt
  have hw : (BitVec.ofNat 32 r.val).toNat = r.val := by rw [BitVec.toNat_ofNat]; omega
  have hs : (⟨1 + g.val, by omega⟩ : Fin 8) = g.succ := Fin.ext (Nat.add_comm _ _)
  rw [hs, owned_word (hT _) (hT _) _ (by rw [hw]; omega), hw]
  rfl

/-- One product of a row with a tenant's weight: the packed word of row `k` is word `k / 4`, its position `k mod 4`. -/
theorem entry_eq (pk : IVec S7x384x4096 16) (g : Fin 7) (k : Fin 1536) (n : Fin 4096) (a s : EReal) :
    (Scalar.select (IntOp.cmpi CmpIPredicate.eq (IntOp.andi (IntOp.shrsi ArithUnit.host (BitVec.setWidth 32 (pk (ix3 g ⟨k.val / 128 * 32 + k.val / 4 % 32, by omega⟩ n))) 8#32) 3#32) (BitVec.ofNat 32 (k.val % 4)))
        (FloatOps.sitofp (F := Ideal) FTy.bf16 (Scalar.select (IntOp.cmpi CmpIPredicate.sge (IntOp.andi (BitVec.setWidth 32 (pk (ix3 g ⟨k.val / 128 * 32 + k.val / 4 % 32, by omega⟩ n))) 15#32) 8#32)
          (IntOp.subi (IntOp.andi (BitVec.setWidth 32 (pk (ix3 g ⟨k.val / 128 * 32 + k.val / 4 % 32, by omega⟩ n))) 15#32) 16#32)
          (IntOp.andi (BitVec.setWidth 32 (pk (ix3 g ⟨k.val / 128 * 32 + k.val / 4 % 32, by omega⟩ n))) 15#32)) : EReal) 0
      + Scalar.select (IntOp.cmpi CmpIPredicate.eq (IntOp.andi (IntOp.shrsi ArithUnit.host (BitVec.setWidth 32 (pk (ix3 g ⟨k.val / 128 * 32 + k.val / 4 % 32, by omega⟩ n))) 10#32) 3#32) (BitVec.ofNat 32 (k.val % 4)))
        (FloatOps.sitofp (F := Ideal) FTy.bf16 (Scalar.select (IntOp.cmpi CmpIPredicate.sge (IntOp.andi (IntOp.shrsi ArithUnit.host (BitVec.setWidth 32 (pk (ix3 g ⟨k.val / 128 * 32 + k.val / 4 % 32, by omega⟩ n))) 4#32) 15#32) 8#32)
          (IntOp.subi (IntOp.andi (IntOp.shrsi ArithUnit.host (BitVec.setWidth 32 (pk (ix3 g ⟨k.val / 128 * 32 + k.val / 4 % 32, by omega⟩ n))) 4#32) 15#32) 16#32)
          (IntOp.andi (IntOp.shrsi ArithUnit.host (BitVec.setWidth 32 (pk (ix3 g ⟨k.val / 128 * 32 + k.val / 4 % 32, by omega⟩ n))) 4#32) 15#32)) : EReal) 0) * s * a
      = a * (weight (pk (ix3 g ⟨k.val / 4, by omega⟩ n)) (k.val % 4) * s) := by
  have hq : (⟨k.val / 128 * 32 + k.val / 4 % 32, by omega⟩ : Fin 384) = ⟨k.val / 4, by omega⟩ := Fin.ext (by
    show k.val / 128 * 32 + k.val / 4 % 32 = k.val / 4
    omega)
  rw [reference_weight _ _ (by omega), hq, mul_comm]

variable (m : (ℓ : Loc nD τ sig) → Buf (Elt Ideal) ℓ)

theorem V_x (c : Dev nD) (r : Fin 1280) (k : Fin 1536) :
    V m c main_v0 (ix2 r k) = rowAt (m (c, Proc.tc.devRef main_arg0)) r k := by
  unfold V
  after_reads_at

theorem V_bs (c : Dev nD) (n : Fin 4096) :
    V m c main_v63 (ix2 0 n) = m (c, Proc.tc.devRef main_arg2) (ix1 n) := by
  unfold V
  after_reads_at

/-- The zero that the reference puts where a tenant does not own the row. -/
theorem zero_apply : (id (constant (F := Ideal) S_ FTy.f32 0#32) ix0 : EReal) = 0 := Ideal.ofBits_zero_f32

theorem V_delta (c : Dev nD) (hT : ∀ j, (m (c, Proc.tc.devRef main_arg5) j : BitVec 32).toNat ≤ 1280) (r : Fin 1280) (n : Fin 4096) :
    (V m c main_v62 : FVec Ideal S1280x4096 .f32) (ix2 r n)
      = delta (m (c, Proc.tc.devRef main_arg0)) (m (c, Proc.tc.devRef main_arg3)) (m (c, Proc.tc.devRef main_arg4)) (m (c, Proc.tc.devRef main_arg5)) r n := by
  generalize hd : delta (m (c, Proc.tc.devRef main_arg0)) (m (c, Proc.tc.devRef main_arg3)) (m (c, Proc.tc.devRef main_arg4)) (m (c, Proc.tc.devRef main_arg5)) r n = d
  unfold V
  after_reads_at
  rw [← hd]
  unfold delta
  refine Finset.sum_congr rfl fun g _ => ?_
  refine term_eq (m (c, Proc.tc.devRef main_arg5)) hT r g _ _ _ zero_apply ?_
  refine Finset.sum_congr rfl fun k _ => ?_
  exact entry_eq (m (c, Proc.tc.devRef main_arg3)) g k n _ _

end Cert.Proof.Ref

end
-- ==== Proof.RefArray.lean ====
/- The array that the last call of the reference writes, over the extended reals. -/
module

public import proofs.«01_k».proof.Proof.Gen.ReferenceIdeal.Value
public import proofs.«01_k».proof.Proof.Gen.ReferenceIdeal.Frame
public import Idealize.ShloMosaic.Lib.Pipeline.ValueKit.Basic
public import Idealize.ShloMosaic.Lib.Pointwise
public import Idealize.ShloMosaic.Lib.StableHlo.ReadAt
import all proofs.«01_k».proof.Proof.Gen.ReferenceIdeal.Frame

@[expose] public section

noncomputable section

namespace Cert.Proof.Ref

open Cert.ReferenceIdeal Cert.ReferenceIdeal.Gen
open Idealize.ShloMosaic Idealize.ShloMosaic.TcCoe Idealize.SL.Sem

set_option maxRecDepth 65536

variable (m : (ℓ : Loc nD τ sig) → Buf (Elt Ideal) ℓ)

theorem iblk0_0 (c : Dev nD) (t : Fin cfg0.N) : iblk m c 0 t = V m c main_v0 := by
  unfold iblk
  funext j
  refine congrArg (V m c main_v0) (funext fun a => ?_)
  match a with
  | ⟨0, _⟩ => exact Fin.ext ((congrArg (_ + ·) (Nat.one_mul _)).trans (Nat.zero_add _))
  | ⟨1, _⟩ => exact Fin.ext ((congrArg (_ + ·) (Nat.one_mul _)).trans (Nat.zero_add _))

theorem iblk0_1 (c : Dev nD) (t : Fin cfg0.N) : iblk m c 1 t = V m c main_arg1 := by
  unfold iblk
  funext j
  refine congrArg (V m c main_arg1) (funext fun a => ?_)
  match a with
  | ⟨0, _⟩ => exact Fin.ext ((congrArg (_ + ·) (Nat.one_mul _)).trans (Nat.zero_add _))
  | ⟨1, _⟩ => exact Fin.ext ((congrArg (_ + ·) (Nat.one_mul _)).trans (Nat.zero_add _))

theorem iblk0_2 (c : Dev nD) (t : Fin cfg0.N) : iblk m c 2 t = V m c main_v63 := by
  unfold iblk
  funext j
  refine congrArg (V m c main_v63) (funext fun a => ?_)
  match a with
  | ⟨0, _⟩ => exact Fin.ext ((congrArg (_ + ·) (Nat.one_mul _)).trans (Nat.zero_add _))
  | ⟨1, _⟩ => exact Fin.ext ((congrArg (_ + ·) (Nat.one_mul _)).trans (Nat.zero_add _))

theorem iblk0_3 (c : Dev nD) (t : Fin cfg0.N) : iblk m c 3 t = V m c main_v62 := by
  unfold iblk
  funext j
  refine congrArg (V m c main_v62) (funext fun a => ?_)
  match a with
  | ⟨0, _⟩ => exact Fin.ext ((congrArg (_ + ·) (Nat.one_mul _)).trans (Nat.zero_add _))
  | ⟨1, _⟩ => exact Fin.ext ((congrArg (_ + ·) (Nat.one_mul _)).trans (Nat.zero_add _))

/-- The last call's arithmetic at an index. -/
theorem pay_apply (x : FVec Ideal S1280x1536 .bf16) (w : FVec Ideal S1536x4096 .fp8e4m3) (bs : FVec Ideal S1x4096 .f32) (d : FVec Ideal S1280x4096 .f32)
    (r : Fin 1280) (n : Fin 4096) :
    (k0_pay1 (F := Ideal) x w bs d (ix2 r n) : EReal) = (∑ k : Fin 1536, (x (ix2 r k) : EReal) * w (ix2 k n)) * bs (ix2 0 n) + d (ix2 r n) := by
  pointwise [k0_pay1]

/-- What the last call leaves in its buffer. -/
theorem out_eq (x : Vec Ideal S1280x1536 .bf16) (w : Vec Ideal S1536x4096 .fp8e4m3) (bs : Vec Ideal S1x4096 .f32) (d : Vec Ideal S1280x4096 .f32) :
    out0_4 x w bs d = k0_pay1 x w bs d := by
  unfold out0_4
  rw [View.canon_cons_unit_lit _ _ _ (by intro a; fin_cases a <;> rfl), View.ld_unit_lit _ x (by intro a; fin_cases a <;> rfl),
    View.ld_unit_lit _ w (by intro a; fin_cases a <;> rfl), View.ld_unit_lit _ bs (by intro a; fin_cases a <;> rfl),
    View.ld_unit_lit _ d (by intro a; fin_cases a <;> rfl)]

/-- The one grid point. -/
def pt : Fin cfg0.N := ⟨0, by decide +kernel⟩

/-- The array the reference leaves is what its last call computes of the arrays before it. -/
theorem result_eq (c : Dev nD) (r : Fin 1280) (n : Fin 4096) :
    ((dats m 0 c).arrAt 4 cfg0.N : FVec Ideal S1280x4096 .bf16) (ix2 r n)
      = k0_pay1 (F := Ideal) (V m c main_v0) (V m c main_arg1) (V m c main_v63) (V m c main_v62) (ix2 r n) := by
  have h := congrFun (Value.blocks4 m c pt (by decide +kernel)) (ix2 r n)
  rw [Value.flushed4, iblk0_0, iblk0_1, iblk0_2, iblk0_3, out_eq] at h
  have e : ((dats m 0 c).arrAt 4 cfg0.N : FVec Ideal S1280x4096 .bf16) (ix2 r n)
      = ((cfg0.win 4).blk pt).view.read (Elt Ideal) ((dats m 0 c).arrAt 4 cfg0.N) (ix2 r n) := by
    refine congrArg ((dats m 0 c).arrAt 4 cfg0.N) (funext fun a => ?_)
    match a with
    | ⟨0, _⟩ => exact (Fin.ext ((congrArg (_ + ·) (Nat.one_mul _)).trans (Nat.zero_add _))).symm
    | ⟨1, _⟩ => exact (Fin.ext ((congrArg (_ + ·) (Nat.one_mul _)).trans (Nat.zero_add _))).symm
  rw [e, h]
  rfl

end Cert.Proof.Ref

end
-- ==== Proof.Equation.lean ====
/- The value claim: from arguments within the precondition the kernel and the reference leave the same array. -/
module

public import proofs.«01_k».proof.Defs
public import proofs.«01_k».proof.Proof.Array
public import proofs.«01_k».proof.Proof.RefDelta
public import proofs.«01_k».proof.Proof.RefArray
public import proofs.«01_k».proof.Proof.Packed
public import proofs.«01_k».proof.Proof.Gen.KernelIdeal
public import proofs.«01_k».proof.Proof.Gen.ReferenceIdeal
public import proofs.«01_k».proof.Proof.Gen.Pre_well_packed

@[expose] public section

noncomputable section

namespace Cert.Proof

open Idealize.ShloMosaic Idealize.ShloMosaic.TcCoe Idealize.SL.Sem

set_option maxRecDepth 65536

/-- What both programs compute, at row `r` of the batch and column `n`. -/
def value (x : FVec Ideal Cert.ReferenceIdeal.S10x128x1536 .bf16) (w : FVec Ideal Cert.ReferenceIdeal.S1536x4096 .fp8e4m3)
    (bs : FVec Ideal Cert.ReferenceIdeal.S4096 .f32) (pk : IVec Cert.ReferenceIdeal.S7x384x4096 16) (sc : FVec Ideal Cert.ReferenceIdeal.S7x12x4096 .bf16)
    (t : IVec Cert.ReferenceIdeal.S8 32) (r : Fin 1280) (n : Fin 4096) : EReal :=
  (∑ k : Fin 1536, Ref.rowAt x r k * w (ix2 k n)) * bs (ix1 n) + Ref.delta x pk sc t r n

section Kernel

open Cert.KernelIdeal Cert.KernelIdeal.Gen

variable (m : (ℓ : Loc nD τ sig) → Buf (Elt Ideal) ℓ)

/-- The kernel's array at a column of a grid point. -/
theorem kernel_value (c : Dev nD) (hT : ∀ j, (offs m j : BitVec 32).toNat ≤ 1280) (ho : ∀ j, Ordered (m (c, Proc.tc.devRef main_arg3) j))
    (r : Fin 1280) (t : Fin (cfgA m).N) (j : Fin 512) :
    ((dats m 0 c).arrAt 5 (cfgA m).N (ix2 r (col t j)) : EReal)
      = value (m (c, Proc.tc.devRef main_arg0)) (m (c, Proc.tc.devRef main_arg1)) (m (c, Proc.tc.devRef main_arg2)) (m (c, Proc.tc.devRef main_arg3))
        (m (c, Proc.tc.devRef main_arg4)) (offs m) r (col t j) := by
  refine (array_apply m c r t j).trans ((outBlock_apply (offs m) hT (actv m c) (iblk m c 1 t) (iblk m c 2 t) (iblk m c 3 t) (iblk m c 4 t)
    (ordered_block m c ho t) r j).trans ?_)
  unfold value Ref.delta
  refine congrArg₂ (· + ·) (congrArg₂ (· * ·) (Finset.sum_congr rfl fun k _ => ?_) ?_) (Finset.sum_congr rfl fun g _ => if_congr Iff.rfl (Finset.sum_congr rfl fun k _ => ?_) rfl)
  · exact congrArg₂ (· * ·) (actv_apply m c r k) (iblk1_apply m c t k j)
  · exact (iblk2_apply m c t j).trans (scale_row m c (col t j))
  · refine congrArg₂ (· * ·) (actv_apply m c r k) ?_
    unfold deltaRow
    exact congrArg₂ (· * ·) (congrArg (weight · (k.val % 4)) (iblk3_apply m c t g _ j)) (iblk4_apply m c t g _ j)

/-- A column is one of the columns of its grid point. -/
theorem exists_col (n : Fin 4096) : ∃ (t : Fin grid0.N) (j : Fin 512), n = col t j :=
  ⟨⟨n.val / 512, by rw [N_0]; omega⟩, ⟨n.val % 512, by omega⟩, Fin.ext (by show n.val = n.val / 512 * 512 + n.val % 512; omega)⟩

end Kernel

section Reference

open Cert.ReferenceIdeal Cert.ReferenceIdeal.Gen

variable (m : (ℓ : Loc nD τ sig) → Buf (Elt Ideal) ℓ)

/-- The reference's array. -/
theorem reference_value (c : Dev nD) (hT : ∀ j, (m (c, Proc.tc.devRef main_arg5) j : BitVec 32).toNat ≤ 1280) (r : Fin 1280) (n : Fin 4096) :
    ((Cert.ReferenceIdeal.Gen.dats m 0 c).arrAt 4 cfg0.N (ix2 r n) : EReal)
      = value (m (c, Proc.tc.devRef main_arg0)) (m (c, Proc.tc.devRef main_arg1)) (m (c, Proc.tc.devRef main_arg2)) (m (c, Proc.tc.devRef main_arg3))
        (m (c, Proc.tc.devRef main_arg4)) (m (c, Proc.tc.devRef main_arg5)) r n := by
  refine (Ref.result_eq m c r n).trans ((Ref.pay_apply _ _ _ _ r n).trans ?_)
  unfold value
  refine congrArg₂ (· + ·) (congrArg₂ (· * ·) (Finset.sum_congr rfl fun k _ => ?_) (Ref.V_bs m c n)) (Ref.V_delta m c hT r n)
  exact congrArg₂ (· * ·) (Ref.V_x m c r k) (congrFun (Cert.ReferenceIdeal.Gen.V_main_arg1 m c) (ix2 k n))

end Reference

theorem value_congr {x x' : FVec Ideal Cert.ReferenceIdeal.S10x128x1536 .bf16} {w w' : FVec Ideal Cert.ReferenceIdeal.S1536x4096 .fp8e4m3}
    {bs bs' : FVec Ideal Cert.ReferenceIdeal.S4096 .f32} {pk pk' : IVec Cert.ReferenceIdeal.S7x384x4096 16} {sc sc' : FVec Ideal Cert.ReferenceIdeal.S7x12x4096 .bf16}
    {t t' : IVec Cert.ReferenceIdeal.S8 32} (h0 : x = x') (h1 : w = w') (h2 : bs = bs') (h3 : pk = pk') (h4 : sc = sc') (h5 : t = t') (r : Fin 1280) (n : Fin 4096) :
    value x w bs pk sc t r n = value x' w' bs' pk' sc' t' r n := by
  subst h0 h1 h2 h3 h4 h5; rfl

section Run

open Cert.KernelIdeal Cert.KernelIdeal.Gen

variable (m : (ℓ : Loc nD τ sig) → Buf (Elt Ideal) ℓ) (ρ : Dev nD → PrngReg)

/-- The run of the kernel, with its result array named and its arguments unchanged. -/
theorem run_value (hT : ∀ j, (offs m j : BitVec 32).toNat ≤ 1280) : θ_run defs (onTc (τ := τ) (main (F := Ideal))) ⟨m, fun _ => 0, ρ⟩ (fun r => ∀ c : Dev nD,
      r.2.mem ((c.tc : Thread nD τ).loc main_v2) = (dats m 0 c).arrAt 5 (cfgA m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 5,
      ((h.1 c).2 main_arg0 (Pipeline.mem_restRefs_of main_arg0 (by decide) (show ∀ w : Fin 6, (spec0 w).arr.view.ref ≠ main_arg0 by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (show ∀ w : Fin 6, (spec0 w).arr.view.ref ≠ main_arg2 by decide))).trans (V_main_arg2 m c),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).2 main_arg5 (Pipeline.mem_restRefs_of main_arg5 (by decide) (show ∀ w : Fin 6, (spec0 w).arr.view.ref ≠ main_arg5 by decide))).trans (V_main_arg5 m c)⟩) (run_main m ρ hT)

end Run

/-- From arguments within the precondition the two programs leave the same array. -/
theorem algebraic : Cert.algebraic_KernelIdeal_ReferenceIdeal_pre_well_packed := fun m g m' g' hp ha => by
  have hT : ∀ j, (offs m j : BitVec 32).toNat ≤ 1280 := fun j => offsets_of_packed (hp 0) j
  refine ⟨fun c => (dats m 0 c).arrAt 5 (cfgA m).N, run_value m g hT, ?_⟩
  refine (θ_run _ _ _).mono (fun r h c => ⟨(h c).1.trans ?_, (h c).2⟩) (Cert.ReferenceIdeal.Value.run_blocks m' g')
  obtain rfl : c = 0 := Subsingleton.elim _ _
  have ho : ∀ j, Ordered (m (0, Proc.tc.devRef Cert.KernelIdeal.main_arg3) j) := fun j => ordered_of_packed (hp 0) j
  obtain ⟨a0, a1, a2, a3, a4, a5⟩ := ha 0
  have hT' : ∀ j, (m' (0, Proc.tc.devRef Cert.ReferenceIdeal.main_arg5) j : BitVec 32).toNat ≤ 1280 := fun j =>
    le_of_eq_of_le (congrArg BitVec.toNat (congrFun a5 j)) (hT j)
  refine funext fun (i : Cert.KernelIdeal.S1280x4096.Idx) => ?_
  obtain ⟨t, j, hn⟩ := exists_col (i 1)
  have hi : i = ix2 (i 0) (col t j) := funext fun a => match a with
    | ⟨0, _⟩ => rfl
    | ⟨1, _⟩ => hn
  rw [hi]
  exact (reference_value m' 0 hT' (i 0) (col t j)).trans ((value_congr a0 a1 a2 a3 a4 a5 (i 0) (col t j)).trans (kernel_value m 0 hT ho (i 0) t j).symm)

end Cert.Proof

end
-- ==== Proof.lean ====
/- The proof of the certificate's claim. Both programs of the kernel run from every table of offsets in range, leave their
   arguments unchanged and end quiescent; the reference does from every memory. From packed words whose positions are in order the
   ideal kernel and the reference leave the same array. -/
module

public import proofs.«01_k».proof.Defs
public import proofs.«01_k».proof.Proof.Frame
public import proofs.«01_k».proof.Proof.Same
public import proofs.«01_k».proof.Proof.Pre
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_offsets_in_range
public import proofs.«01_k».proof.Proof.Gen.Pre_well_packed
public import proofs.«01_k».proof.Proof.Packed
public import proofs.«01_k».proof.Proof.Equation
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The kernel as it runs: arguments unchanged, quiescent. -/
theorem frame_Kernel : Cert.quiescent_Kernel := fun m g h => by
  have hm : @Cert.Kernel.main Bits _ _ = @Cert.KernelIdeal.main Bits _ _ := main_eq
  rw [hm, defs_eq]
  exact frame_run (F := Bits) m g fun j => offsets_of_pre (h 0) j

/-- The ideal kernel under `offsets_in_range`, -/
theorem frame_KernelIdeal : Cert.quiescent_KernelIdeal := fun m g h => frame_run (F := Ideal) m g fun j => offsets_of_pre (h 0) j

/-- The reference, from every memory, -/
theorem frame_ReferenceIdeal : Cert.quiescent_ReferenceIdeal := fun m g _ => Cert.ReferenceIdeal.Gen.frame m g

/-- The ideal kernel under the precondition of the value claim, -/
theorem frame_KernelIdeal_packed : Cert.quiescent_KernelIdeal_pre_well_packed := fun m g h => frame_run (F := Ideal) m g fun j => offsets_of_packed (h 0) j

/-- and the reference under it. -/
theorem frame_ReferenceIdeal_packed : Cert.quiescent_ReferenceIdeal_pre_well_packed := fun m g _ => Cert.ReferenceIdeal.Gen.frame m g

theorem claim : Cert.Claim := ⟨Cert.Kernel.Gen.facts, Cert.KernelIdeal.Gen.facts, Cert.ReferenceIdeal.Gen.facts, Cert.Pre_offsets_in_range.Gen.facts,
  Cert.Pre_well_packed.Gen.facts, frame_Kernel, frame_KernelIdeal, frame_KernelIdeal_packed, frame_ReferenceIdeal, frame_ReferenceIdeal_packed, trivial, algebraic⟩

end Cert.Proof

end
